-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![2048, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S256x256 : Shape := ⟨2, ![256, 256]⟩
abbrev S8x2x128x256 : Shape := ⟨4, ![8, 2, 128, 256]⟩
abbrev S8x1x128 : Shape := ⟨3, ![8, 1, 128]⟩
abbrev S_ : Shape := ⟨0, ![]⟩
abbrev S8 : Shape := ⟨1, ![8]⟩
abbrev S128 : Shape := ⟨1, ![128]⟩
abbrev S1x128 : Shape := ⟨2, ![1, 128]⟩
abbrev S1x1x128 : Shape := ⟨3, ![1, 1, 128]⟩
abbrev S1x2x128x256 : Shape := ⟨4, ![1, 2, 128, 256]⟩
abbrev S1 : Shape := ⟨1, ![1]⟩
abbrev S8x128 : Shape := ⟨2, ![8, 128]⟩
abbrev S1x1x128x256 : Shape := ⟨4, ![1, 1, 128, 256]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S8x2x128x256, .bf16⟩
  | .local _ .vmem, ⟨5, _⟩ => ⟨S8x1x128, .i32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : Index := Scalar.indexCast v2
  let c0_30 : Index := 0#32
  let c0_31 : Index := 0#32
  ![v41.toNat, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_32 : BitVec 32 := 0#32
  let c0_i32_33 : BitVec 32 := 0#32
  let c0_i32_34 : BitVec 32 := 0#32
  ![v2.toNat, 0, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v47 : BitVec 32 := Scalar.addi v2 c1_i32_35
  let c8_i32_36 : BitVec 32 := 8#32
  let v48 : BitVec 32 := Scalar.remsi v47 c8_i32_36
  let c1_i32_38 : BitVec 32 := 1#32
  let v49 : BitVec 32 := Scalar.muli v48 c1_i32_38
  let v50 : BitVec 32 := Scalar.addi c0_i32_39 v49
  v50.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v47 : BitVec 32 := Scalar.addi v2 c1_i32_35
  let c8_i32_36 : BitVec 32 := 8#32
  let v48 : BitVec 32 := Scalar.remsi v47 c8_i32_36
  let c1_i32_45 : BitVec 32 := 1#32
  let v59 : BitVec 32 := Scalar.muli v48 c1_i32_45
  let v60 : BitVec 32 := Scalar.addi c0_i32_46 v59
  v60.toNat
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v67 : BitVec 32 := Scalar.addi v2 c2_i32_50
  let c8_i32_51 : BitVec 32 := 8#32
  let v68 : BitVec 32 := Scalar.remsi v67 c8_i32_51
  let c1_i32_53 : BitVec 32 := 1#32
  let v69 : BitVec 32 := Scalar.muli v68 c1_i32_53
  let v70 : BitVec 32 := Scalar.addi c0_i32_54 v69
  v70.toNat
def k0_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v67 : BitVec 32 := Scalar.addi v2 c2_i32_50
  let c8_i32_51 : BitVec 32 := 8#32
  let v68 : BitVec 32 := Scalar.remsi v67 c8_i32_51
  let c1_i32_60 : BitVec 32 := 1#32
  let v79 : BitVec 32 := Scalar.muli v68 c1_i32_60
  let v80 : BitVec 32 := Scalar.addi c0_i32_61 v79
  v80.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v87 : BitVec 32 := Scalar.addi v2 c3_i32_65
  let c8_i32_66 : BitVec 32 := 8#32
  let v88 : BitVec 32 := Scalar.remsi v87 c8_i32_66
  let c1_i32_68 : BitVec 32 := 1#32
  let v89 : BitVec 32 := Scalar.muli v88 c1_i32_68
  let v90 : BitVec 32 := Scalar.addi c0_i32_69 v89
  v90.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v87 : BitVec 32 := Scalar.addi v2 c3_i32_65
  let c8_i32_66 : BitVec 32 := 8#32
  let v88 : BitVec 32 := Scalar.remsi v87 c8_i32_66
  let c1_i32_75 : BitVec 32 := 1#32
  let v99 : BitVec 32 := Scalar.muli v88 c1_i32_75
  let v100 : BitVec 32 := Scalar.addi c0_i32_76 v99
  v100.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_80 : BitVec 32 := 4#32
  let v107 : BitVec 32 := Scalar.addi v2 c4_i32_80
  let c8_i32_81 : BitVec 32 := 8#32
  let v108 : BitVec 32 := Scalar.remsi v107 c8_i32_81
  let c1_i32_83 : BitVec 32 := 1#32
  let v109 : BitVec 32 := Scalar.muli v108 c1_i32_83
  let v110 : BitVec 32 := Scalar.addi c0_i32_84 v109
  v110.toNat
def k0_dev15 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_80 : BitVec 32 := 4#32
  let v107 : BitVec 32 := Scalar.addi v2 c4_i32_80
  let c8_i32_81 : BitVec 32 := 8#32
  let v108 : BitVec 32 := Scalar.remsi v107 c8_i32_81
  let c1_i32_90 : BitVec 32 := 1#32
  let v119 : BitVec 32 := Scalar.muli v108 c1_i32_90
  let v120 : BitVec 32 := Scalar.addi c0_i32_91 v119
  v120.toNat
def k0_dev16 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v127 : BitVec 32 := Scalar.addi v2 c5_i32_95
  let c8_i32_96 : BitVec 32 := 8#32
  let v128 : BitVec 32 := Scalar.remsi v127 c8_i32_96
  let c1_i32_98 : BitVec 32 := 1#32
  let v129 : BitVec 32 := Scalar.muli v128 c1_i32_98
  let v130 : BitVec 32 := Scalar.addi c0_i32_99 v129
  v130.toNat
def k0_dev17 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v127 : BitVec 32 := Scalar.addi v2 c5_i32_95
  let c8_i32_96 : BitVec 32 := 8#32
  let v128 : BitVec 32 := Scalar.remsi v127 c8_i32_96
  let c1_i32_105 : BitVec 32 := 1#32
  let v139 : BitVec 32 := Scalar.muli v128 c1_i32_105
  let v140 : BitVec 32 := Scalar.addi c0_i32_106 v139
  v140.toNat
def k0_dev18 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c8_i32_111 : BitVec 32 := 8#32
  let v148 : BitVec 32 := Scalar.remsi v147 c8_i32_111
  let c1_i32_113 : BitVec 32 := 1#32
  let v149 : BitVec 32 := Scalar.muli v148 c1_i32_113
  let v150 : BitVec 32 := Scalar.addi c0_i32_114 v149
  v150.toNat
def k0_dev19 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c8_i32_111 : BitVec 32 := 8#32
  let v148 : BitVec 32 := Scalar.remsi v147 c8_i32_111
  let c1_i32_120 : BitVec 32 := 1#32
  let v159 : BitVec 32 := Scalar.muli v148 c1_i32_120
  let v160 : BitVec 32 := Scalar.addi c0_i32_121 v159
  v160.toNat
def k0_dev20 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_125 : BitVec 32 := 7#32
  let v167 : BitVec 32 := Scalar.addi v2 c7_i32_125
  let c8_i32_126 : BitVec 32 := 8#32
  let v168 : BitVec 32 := Scalar.remsi v167 c8_i32_126
  let c1_i32_128 : BitVec 32 := 1#32
  let v169 : BitVec 32 := Scalar.muli v168 c1_i32_128
  let v170 : BitVec 32 := Scalar.addi c0_i32_129 v169
  v170.toNat
def k0_dev21 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_125 : BitVec 32 := 7#32
  let v167 : BitVec 32 := Scalar.addi v2 c7_i32_125
  let c8_i32_126 : BitVec 32 := 8#32
  let v168 : BitVec 32 := Scalar.remsi v167 c8_i32_126
  let c1_i32_135 : BitVec 32 := 1#32
  let v179 : BitVec 32 := Scalar.muli v168 c1_i32_135
  let v180 : BitVec 32 := Scalar.addi c0_i32_136 v179
  v180.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S16 : Shape := ⟨1, ![16]⟩
abbrev S1x16 : Shape := ⟨2, ![1, 16]⟩
abbrev S2048x16 : Shape := ⟨2, ![2048, 16]⟩
abbrev S2048x16x256 : Shape := ⟨3, ![2048, 16, 256]⟩
abbrev S2048x16x1 : Shape := ⟨3, ![2048, 16, 1]⟩
abbrev S2048x256 : Shape := ⟨2, ![2048, 256]⟩

abbrev nBuf : Space → Nat
  | .hbm => 43
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x16, .bf16⟩
  | .hbm, ⟨2, _⟩ => ⟨S2048x1, .i32⟩
  | .hbm, ⟨3, _⟩ => ⟨S16x128x256, .bf16⟩
  | .hbm, ⟨4, _⟩ => ⟨S2048x128, .f32⟩
  | .hbm, ⟨5, _⟩ => ⟨S16x128x256, .f32⟩
  | .hbm, ⟨6, _⟩ => ⟨S2048, .i32⟩
  | .hbm, ⟨7, _⟩ => ⟨S2048, .i32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048, .i32⟩
  | .hbm, ⟨22, _⟩ => ⟨S2048x1, .i32⟩
  | .hbm, ⟨23, _⟩ => ⟨S16, .i32⟩
  | .hbm, ⟨24, _⟩ => ⟨S1x16, .i32⟩
  | .hbm, ⟨25, _⟩ => ⟨S2048x16, .i32⟩
  | .hbm, ⟨26, _⟩ => ⟨S2048x16, .i32⟩
  | .hbm, ⟨27, _⟩ => ⟨S2048x16, .i1⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048x1, .i1⟩
  | .hbm, ⟨32, _⟩ => ⟨S2048x16, .i1⟩
  | .hbm, ⟨33, _⟩ => ⟨S2048x16, .i1⟩
  | .hbm, ⟨34, _⟩ => ⟨S2048x16x256, .f32⟩
  | .hbm, ⟨35, _⟩ => ⟨S2048x16x1, .i1⟩
  | .hbm, ⟨36, _⟩ => ⟨S_, .f32⟩
  | .hbm, ⟨37, _⟩ => ⟨S_, .f32⟩
  | .hbm, ⟨38, _⟩ => ⟨S2048x16x256, .i1⟩
  | .hbm, ⟨39, _⟩ => ⟨S2048x16x256, .f32⟩
  | .hbm, ⟨40, _⟩ => ⟨S2048x16x256, .f32⟩
  | .hbm, ⟨41, _⟩ => ⟨S_, .f32⟩
  | .hbm, ⟨42, _⟩ => ⟨S2048x256, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.KernelIdealCommon.lean ====
/-
# The exchange: devices, cells, slots, contents and the schedule

Eight devices gather two tables from one another. Device `c` owns slot `c` of each table: slot `c` of the weight
table holds its two experts' matrices, slot `c` of the count table how many of its tokens chose each expert. It writes
its own slots itself and sends both to every other device, directly. Before any send each device tells every other one
that its tables may be written, and waits for the seven like words from the others.

The semaphores of one device are named by `Cl`: the barrier, the local copy's, and for each table and each direction
one per slot. One round per cell.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

/-! ## The resource algebra: the pipeline library's copy and the exchange's, a duty named by the device that pays it -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `k` places after `c`. -/
def nxt (k : Fin 8) (c : Dev nD) : Dev nD := ⟨(c.val + k.val) % 8, Nat.mod_lt _ (by decide)⟩
set_option backward.proofsInPublic true in
/-- How many places device `d` comes after `c`. -/
def dist (c d : Dev nD) : Fin 8 := ⟨(d.val + 8 - c.val) % 8, Nat.mod_lt _ (by decide)⟩

theorem dist_nxt (k : Fin 8) (c : Dev nD) : dist c (nxt k c) = k := by revert k c; decide
theorem nxt_dist (c d : Dev nD) : nxt (dist c d) c = d := by revert c d; decide
theorem nxt_zero (c : Dev nD) : nxt 0 c = c := by revert c; decide
theorem nxt_ne (k : Fin 8) (hk : k ≠ 0) (c : Dev nD) : nxt k c ≠ c := by revert k c; decide
theorem ne_nxt (k : Fin 8) (hk : k ≠ 0) (c : Dev nD) : c ≠ nxt k c := (nxt_ne k hk c).symm
theorem nxt_inj (k : Fin 8) {c d : Dev nD} (h : nxt k c = nxt k d) : c = d := by revert k c d; decide

/-- The offsets from `c` are the devices. -/
def rot (c : Dev nD) : Fin 8 ≃ Dev nD := ⟨fun k => nxt k c, dist c, fun k => dist_nxt k c, fun d => nxt_dist c d⟩

/-! ## The semaphores -/

/-- A device's semaphores: the barrier (`none`), the local copy's (`some none`), and the arrays': `(cnt, recv, j)` is
    entry `j` of the count table's (`cnt`) or the weight table's, receive (`recv`) or send array. -/
abbrev Own : Type := Option (Bool × Bool × Fin 8)
abbrev Cl : Type := Option Own

abbrev barS : Sem sig := (SemArray.scalar (sig.barrier 0 rfl) : Sems sig S_).sem

def smS (key : Bool × Bool × Fin 8) : DmaSem sig :=
  ⟨5 + 16 * key.1.toNat + 8 * key.2.1.toNat + key.2.2.val, by
    have := Bool.toNat_le key.1; have := Bool.toNat_le key.2.1; have := key.2.2.isLt; show _ < 37; omega⟩

def osem : Own → SemLoc sig
  | none => .dma (4 : Fin 37)
  | some key => .dma (smS key)
def csem : Cl → SemLoc sig
  | none => .reg barS
  | some o => osem o

abbrev kcell (ck : Dev nD × Cl) : GSem nD τ sig := ((ck.1 : Thread nD τ), csem ck.2)

/-- Which semaphore of the exchange a semaphore is, if any. -/
def role : SemLoc sig → Option Cl
  | .reg _ => some none
  | .dma i => if i.val < 4 then none else if i.val = 4 then some (some none)
      else some (some (some (decide (21 ≤ i.val), decide (8 ≤ (i.val - 5) % 16), ⟨(i.val - 5) % 8, Nat.mod_lt _ (by decide)⟩)))

theorem role_csem (k : Cl) : role (csem k) = some k := by
  rcases k with _ | _ | ⟨a, b, j⟩
  · rfl
  · rfl
  · revert a b j; decide

theorem csem_injective : Function.Injective csem := fun a b h => by
  have := congrArg role h; rw [role_csem, role_csem] at this; exact Option.some.inj this

abbrev barCell (c : Dev nD) : GSem nD τ sig := ((c : Thread nD τ), .reg barS)
abbrev copyCell (c : Dev nD) : GSem nD τ sig := ((c : Thread nD τ), .dma (4 : Fin 37))
/-- Entry `j` of the array of table `t` (`true` the counts), direction `r` (`true` receive). -/
abbrev arrCell (t r : Bool) (j : Fin 8) (c : Dev nD) : GSem nD τ sig := ((c : Thread nD τ), .dma (smS (t, r, j)))

theorem bar_eq (c : Dev nD) : kcell (c, none) = barCell c := rfl
theorem copy_eq (c : Dev nD) : kcell (c, some none) = copyCell c := rfl
theorem arr_eq (t r : Bool) (j : Fin 8) (c : Dev nD) : kcell (c, some (some (t, r, j))) = arrCell t r j c := rfl

/-! ## The slots -/

abbrev wStage : Memref sig .tc .vmem S2x128x256 .bf16 := Memref.whole cc0_stg2_0

theorem w_inb (j : Dev nD) : ∀ a, (![j.val, 0, 0, 0] : Fin 4 → ℕ) a + S1x2x128x256.size a ≤ S8x2x128x256.size a := by
  revert j; decide
theorem c_inb (j : Dev nD) : ∀ a, (![j.val, 0, 0] : Fin 3 → ℕ) a + S1x1x128.size a ≤ S8x1x128.size a := by
  revert j; decide

/-- Slot `j` of the weight table. -/
abbrev wM (j : Dev nD) : Memref sig .tc .vmem S2x128x256 .bf16 :=
  ((Memref.whole cc0_scratch0).slice (Rect.unit (s := S8x2x128x256) ![j.val, 0, 0, 0] S1x2x128x256.size (w_inb j)) (fun _ => rfl)).squeeze
    S2x128x256 squeezes_S1x2x128x256_S2x128x256
/-- Slot `j` of the count table. -/
abbrev cM (j : Dev nD) : Memref sig .tc .vmem S1x128 .i32 :=
  ((Memref.whole cc0_scratch1).slice (Rect.unit (s := S8x1x128) ![j.val, 0, 0] S1x1x128.size (c_inb j)) (fun _ => rfl)).squeeze
    S1x128 squeezes_S1x1x128_S1x128

/-- What one transfer of a slot credits a semaphore with. -/
@[irreducible] def Nw : ℕ := (wM 0).view.dmaCredit
@[irreducible] def Nc : ℕ := (cM 0).view.dmaCredit
theorem Nw_pos : 0 < Nw := by unfold Nw; exact View.dmaCredit_pos _ (by decide)
theorem Nc_pos : 0 < Nc := by unfold Nc; exact View.dmaCredit_pos _ (by decide)

/-- Slot `j`'s elements. -/
abbrev wSet (j : Dev nD) : Finset (S8x2x128x256.Idx) := (wM j).view.set
abbrev cSet (j : Dev nD) : Finset (S8x1x128.Idx) := (cM j).view.set

theorem mem_wSet (j : Dev nD) (i : S8x2x128x256.Idx) : i ∈ wSet j ↔ (i 0).val = j.val := by
  have h : wSet j = (Rect.unit (s := S8x2x128x256) ![j.val, 0, 0, 0] S1x2x128x256.size (w_inb j)).set :=
    (View.set_reshape _ _).trans (View.set_slice_whole _ _)
  rw [h]; erw [Rect.mem_set_unit]
  constructor
  · intro h
    have h0 := h 0
    change j.val ≤ (i 0).val ∧ (i 0).val < j.val + 1 at h0
    omega
  · intro h a
    fin_cases a
    · show j.val ≤ (i 0).val ∧ (i 0).val < j.val + 1; omega
    · exact ⟨Nat.zero_le _, by have := (i 1).isLt; simpa using this⟩
    · exact ⟨Nat.zero_le _, by have := (i 2).isLt; simpa using this⟩
    · exact ⟨Nat.zero_le _, by have := (i 3).isLt; simpa using this⟩

theorem mem_cSet (j : Dev nD) (i : S8x1x128.Idx) : i ∈ cSet j ↔ (i 0).val = j.val := by
  have h : cSet j = (Rect.unit (s := S8x1x128) ![j.val, 0, 0] S1x1x128.size (c_inb j)).set :=
    (View.set_reshape _ _).trans (View.set_slice_whole _ _)
  rw [h]; erw [Rect.mem_set_unit]
  constructor
  · intro h
    have h0 := h 0
    change j.val ≤ (i 0).val ∧ (i 0).val < j.val + 1 at h0
    omega
  · intro h a
    fin_cases a
    · show j.val ≤ (i 0).val ∧ (i 0).val < j.val + 1; omega
    · exact ⟨Nat.zero_le _, by have := (i 1).isLt; simpa using this⟩
    · exact ⟨Nat.zero_le _, by have := (i 2).isLt; simpa using this⟩

theorem wSet_disj : ∀ j ∈ (Finset.univ : Finset (Dev nD)), ∀ j' ∈ (Finset.univ : Finset (Dev nD)), j ≠ j' → Disjoint (wSet j) (wSet j') := by
  intro j _ j' _ hne
  rw [Finset.disjoint_left]; intro i hi hi'
  rw [mem_wSet] at hi hi'; exact hne (Fin.ext (hi.symm.trans hi'))
theorem cSet_disj : ∀ j ∈ (Finset.univ : Finset (Dev nD)), ∀ j' ∈ (Finset.univ : Finset (Dev nD)), j ≠ j' → Disjoint (cSet j) (cSet j') := by
  intro j _ j' _ hne
  rw [Finset.disjoint_left]; intro i hi hi'
  rw [mem_cSet] at hi hi'; exact hne (Fin.ext (hi.symm.trans hi'))
theorem wSet_univ : (Finset.univ : Finset (Dev nD)).biUnion wSet = Finset.univ := by
  ext i; rw [Finset.mem_biUnion]
  exact ⟨fun _ => Finset.mem_univ _, fun _ => ⟨⟨(i 0).val, (i 0).isLt⟩, Finset.mem_univ _, (mem_wSet _ i).mpr rfl⟩⟩
theorem cSet_univ : (Finset.univ : Finset (Dev nD)).biUnion cSet = Finset.univ := by
  ext i; rw [Finset.mem_biUnion]
  exact ⟨fun _ => Finset.mem_univ _, fun _ => ⟨⟨(i 0).val, (i 0).isLt⟩, Finset.mem_univ _, (mem_cSet _ i).mpr rfl⟩⟩

/-! ## Contents -/

/-- Device `c`'s tokens, chosen experts and two expert matrices, as the body finds them staged. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The weight table once gathered: slot `j` holds device `j`'s matrices. -/
def GW : (cc0_scratch0 : Ref sig .tc).ty.Contents (Elt F) := fun i =>
  wstg m ρ (⟨(i 0).val, (i 0).isLt⟩ : Dev nD) (ix3 (n0 := 2) (n1 := 128) (n2 := 256) (i 1) (i 2) (i 3))
/-- How many of device `j`'s tokens chose expert `l`. -/
def cntAt (j : Dev nD) (l : Fin 128) : BitVec 32 := k0_pay2 (F := F) (rstg m ρ j) (ix3 (n0 := 1) (n1 := 1) (n2 := 128) 0 0 l)
/-- The count table once gathered: slot `j` holds device `j`'s counts. -/
def GC : (cc0_scratch1 : Ref sig .tc).ty.Contents (Elt F) := fun i => cntAt m ρ (⟨(i 0).val, (i 0).isLt⟩ : Dev nD) (i 2)

theorem GC_at (j : Dev nD) (l : Fin 128) : GC m ρ (ix3 (n0 := 8) (n1 := 1) (n2 := 128) j 0 l) = cntAt m ρ j l := rfl

theorem wM_emb (j : Dev nD) (y : S2x128x256.Idx) : (wM j).view.emb y = ix4 (n0 := 8) (n1 := 2) (n2 := 128) (n3 := 256) j (y 0) (y 1) (y 2) := by
  have hy : y = ix3 (n0 := 2) (n1 := 128) (n2 := 256) (y 0) (y 1) (y 2) := eq_ix3 y
  have h1 : (wM j).view.emb y = (Rect.unit (s := S8x2x128x256) ![j.val, 0, 0, 0] S1x2x128x256.size (w_inb j)).emb
      (Shape.reshapeEquiv (squeezes_S1x2x128x256_S2x128x256 : S1x2x128x256.Squeezes S2x128x256).numel_eq y) := rfl
  rw [h1, hy]
  erw [reshapeEquiv_ix3_1abc]
  funext a; apply Fin.ext
  fin_cases a
  · show j.val + 1 * 0 = j.val; omega
  · show 0 + 1 * (y 0).val = (y 0).val; omega
  · show 0 + 1 * (y 1).val = (y 1).val; omega
  · show 0 + 1 * (y 2).val = (y 2).val; omega

/-- Whatever slot `j` held, device `j`'s matrices copied into it are the gathered table's. -/
theorem write_w (j : Dev nD) (fd : (cc0_scratch0 : Ref sig .tc).ty.Contents (Elt F)) : ∀ i ∈ wSet j,
    (wM j).view.write (Elt F) fd (wStage.view.read (Elt F) (wstg m ρ j)) Finset.univ i = GW m ρ i := by
  intro i hi
  obtain ⟨y, rfl⟩ := View.exists_emb_of_mem_set _ hi
  rw [View.write_emb_of_mem _ _ (Finset.mem_univ y), wM_emb]
  show wstg m ρ j y = wstg m ρ j (ix3 (n0 := 2) (n1 := 128) (n2 := 256) (y 0) (y 1) (y 2))
  exact congrArg (wstg m ρ j) (eq_ix3 y)

/-- A slot's contents copied into the like slot are the same there. -/
theorem write_c (j : Dev nD) (fd f : (cc0_scratch1 : Ref sig .tc).ty.Contents (Elt F)) : ∀ i ∈ cSet j,
    (cM j).view.write (Elt F) fd ((cM j).view.read (Elt F) f) Finset.univ i = f i := by
  intro i hi
  rw [View.write_read_eq_piecewise]
  exact Finset.piecewise_eq_of_mem _ _ _ hi

/-- The rectangle a device stores its counts through. -/
abbrev cR (j : Dev nD) : Rect S8x1x128 := Rect.unit (s := S8x1x128) ![j.val, 0, 0] S1x1x128.size (c_inb j)

theorem acc_set (j : Dev nD) : ((Memref.whole cc0_scratch1 : Memref sig .tc .vmem S8x1x128 .i32).access (cR j)).set = cSet j :=
  ((View.set_reshape _ _).trans rfl).symm

theorem store_c (j : Dev nD) (f : (cc0_scratch1 : Ref sig .tc).ty.Contents (Elt F)) : ∀ i ∈ cSet j,
    ((Memref.whole cc0_scratch1 : Memref sig .tc .vmem S8x1x128 .i32).access (cR j)).write (Elt F) f (k0_pay2 (F := F) (rstg m ρ j)) Finset.univ i
      = GC m ρ i := by
  intro i hi
  rw [← acc_set] at hi
  obtain ⟨y, rfl⟩ := View.exists_emb_of_mem_set _ hi
  rw [View.write_emb_of_mem _ _ (Finset.mem_univ y)]
  have he : ((Memref.whole cc0_scratch1 : Memref sig .tc .vmem S8x1x128 .i32).access (cR j)).emb y
      = ix3 (n0 := 8) (n1 := 1) (n2 := 128) j 0 (y 2) := by
    show (cR j).emb y = _
    funext a; apply Fin.ext
    have h0 : (y 0).val = 0 := by have : (y 0).val < 1 := (y 0).isLt; omega
    have h1 : (y 1).val = 0 := by have : (y 1).val < 1 := (y 1).isLt; omega
    fin_cases a
    · show j.val + 1 * (y 0).val = j.val; omega
    · show 0 + 1 * (y 1).val = 0; omega
    · show 0 + 1 * (y 2).val = (y 2).val; omega
  rw [he]
  refine (cast_eq _ _).trans (Eq.trans ?_ (GC_at m ρ j (y 2)).symm)
  unfold cntAt
  have h0 : y 0 = (0 : Fin 1) := Fin.ext (by have : (y 0).val < 1 := (y 0).isLt; show (y 0).val = 0; omega)
  have h1 : y 1 = (0 : Fin 1) := Fin.ext (by have : (y 1).val < 1 := (y 1).isLt; show (y 1).val = 0; omega)
  have hy : y = ix3 (n0 := 1) (n1 := 1) (n2 := 128) 0 0 (y 2) := (eq_ix3 y).trans (by rw [h0, h1]; rfl)
  exact congrArg (fun z : S1x1x128.Idx => k0_pay2 (F := F) (rstg m ρ j) z) hy

/-! ## What is held -/

/-- Slot `j` of device `d`'s weight table at share `q`, contents `f`; of its count table. -/
def wPts (d j : Dev nD) (q : PosShare TreeShare) (f : (cc0_scratch0 : Ref sig .tc).ty.Contents (Elt F)) : sProp 𝕄 :=
  (wM j).view.loc (d : Thread nD τ) ↦[(wM j).view.set]{q} f
def cPts (d j : Dev nD) (q : PosShare TreeShare) (f : (cc0_scratch1 : Ref sig .tc).ty.Contents (Elt F)) : sProp 𝕄 :=
  (cM j).view.loc (d : Thread nD τ) ↦[(cM j).view.set]{q} f
/-- Read share `k` of eight of device `c`'s staged matrices. -/
def sTok (c : Dev nD) (k : Fin 8) : sProp 𝕄 :=
  wStage.view.loc (c : Thread nD τ) ↦[wStage.view.set]{shareTok fullShare 8 k} wstg m ρ c
/-- Read share `k` of eight of device `c`'s own counts. -/
def cTok (c : Dev nD) (k : Fin 8) : sProp 𝕄 := cPts c c (shareTok fullShare 8 k) (GC m ρ)

omit [FloatOps F] in
instance wPts_storable (d j q f) : BI.Storable (upEmb : UEmb _ 𝕄) (wPts (F := F) d j q f) := by unfold wPts; infer_instance
omit [FloatOps F] in
instance cPts_storable (d j q f) : BI.Storable (upEmb : UEmb _ 𝕄) (cPts (F := F) d j q f) := by unfold cPts; infer_instance
omit [FloatOps F] in
instance sTok_storable (c k) : BI.Storable (upEmb : UEmb _ 𝕄) (sTok (F := F) m ρ c k) := by unfold sTok; infer_instance
instance cTok_storable (c k) : BI.Storable (upEmb : UEmb _ 𝕄) (cTok (F := F) m ρ c k) := by unfold cTok; infer_instance

/-! ## The schedule -/

/-- What device `d`'s word to device `c` hands over: slot `c` of both of `d`'s tables. -/
def barPay (c d : Dev nD) : sProp 𝕄 := iprop((∃ f, wPts d c fullShare f) ∗ (∃ f, cPts d c fullShare f))
def copyPay (c : Dev nD) : sProp 𝕄 := iprop(wPts c c fullShare (GW m ρ) ∗ sTok m ρ c 0)

def dutyOf (c : Dev nD) : Option Cl → Finset (Dev nD)
  | none => ∅
  | some none => Finset.univ.erase c
  | some (some none) => {c}
  | some (some (some (_, false, k))) => if k = 0 then ∅ else {c}
  | some (some (some (_, true, j))) => if j = c then ∅ else {j}

def amountOf : Option Cl → ℕ
  | none => 1
  | some none => 1
  | some (some none) => Nw
  | some (some (some (false, _, _))) => Nw
  | some (some (some (true, _, _))) => Nc

def payOf (c d : Dev nD) : Option Cl → sProp 𝕄
  | none => iprop(emp)
  | some none => barPay c d
  | some (some none) => copyPay m ρ c
  | some (some (some (false, false, k))) => sTok m ρ c k
  | some (some (some (true, false, k))) => cTok m ρ c k
  | some (some (some (false, true, j))) => wPts c j fullShare (GW m ρ)
  | some (some (some (true, true, j))) => cPts c j fullShare (GC m ρ)

/-- One round, round 0. A device's barrier cell has a duty of every other device, one unit each; its copy's cell its own;
    entry `k ≠ 0` of a send array its own (the transfer to the device `k` places on); entry `j` of a receive array device
    `j`'s, `j` another device. -/
def sched : Rounds.Schedule (GSem nD τ sig) (Dev nD) 𝕄 where
  duties g r := if r = 0 ∧ g.1.2 = .tc then dutyOf g.1.1 (role g.2) else ∅
  unitless _ := False
  amount g _ _ := amountOf (role g.2)
  payload g _ d := payOf m ρ g.1.1 d (role g.2)
  amount_pos g _ _ _ := by
    rcases h : role g.2 with _ | _ | _ | ⟨_ | _, b, j⟩ <;> first | exact Nat.one_pos | exact Nw_pos | exact Nc_pos

instance sched_payload_storable (g : GSem nD τ sig) (r : ℕ) (d : Dev nD) :
    BI.Storable (upEmb : UEmb _ 𝕄) ((sched (F := F) m ρ).payload g r d) := by
  show BI.Storable upEmb (payOf m ρ g.1.1 d (role g.2))
  rcases h : role g.2 with _ | _ | _ | ⟨_ | _, _ | _, j⟩ <;> dsimp only [payOf] <;> (try unfold barPay) <;> (try unfold copyPay) <;> infer_instance

theorem duties_cell (c : Dev nD) (k : Cl) : (sched (F := F) m ρ).duties (kcell (c, k)) 0 = dutyOf c (some k) := by
  dsimp only [sched]; rw [if_pos ⟨rfl, rfl⟩, role_csem]
theorem amount_cell (c : Dev nD) (k : Cl) (r : ℕ) (d : Dev nD) : (sched (F := F) m ρ).amount (kcell (c, k)) r d = amountOf (some k) := by
  dsimp only [sched]; rw [role_csem]
theorem payload_cell (c : Dev nD) (k : Cl) (r : ℕ) (d : Dev nD) : (sched (F := F) m ρ).payload (kcell (c, k)) r d = payOf m ρ c d (some k) := by
  dsimp only [sched]; rw [role_csem]
theorem duties_later (g : GSem nD τ sig) : ∀ r, 1 ≤ r → (sched (F := F) m ρ).duties g r = ∅ :=
  fun r hr => by dsimp only [sched]; rw [if_neg fun h => by omega]
theorem duties_unused (c : Dev nD) (k : Cl) (h : dutyOf c (some k) = ∅) : ∀ r, 0 ≤ r → (sched (F := F) m ρ).duties (kcell (c, k)) r = ∅ := by
  intro r _
  rcases Nat.eq_zero_or_pos r with rfl | hr
  · rw [duties_cell, h]
  · exact duties_later m ρ _ r hr

theorem expect_bar (c : Dev nD) : (sched (F := F) m ρ).expect (barCell c) 0 = 7 := by
  rw [← bar_eq]
  unfold Schedule.expect Schedule.amountOf
  rw [duties_cell, Finset.sum_congr rfl fun d _ => amount_cell m ρ c none 0 d, Finset.sum_const]
  show (Finset.univ.erase c).card • 1 = 7
  rw [Finset.card_erase_of_mem (Finset.mem_univ _), Finset.card_univ, Fintype.card_fin]
  rfl
/-- A cell with one duty expects its amount. -/
theorem expect_one (c : Dev nD) (k : Cl) (d : Dev nD) (h : dutyOf c (some k) = {d}) :
    (sched (F := F) m ρ).expect (kcell (c, k)) 0 = amountOf (some k) := by
  unfold Schedule.expect Schedule.amountOf; rw [duties_cell, h, Finset.sum_singleton, amount_cell]
/-- and its round hands over that duty's payload. -/
theorem rest_one (c : Dev nD) (k : Cl) (d : Dev nD) (h : dutyOf c (some k) = {d}) :
    bigSep ((sched (F := F) m ρ).duties (kcell (c, k)) 0 \ ∅) (fun d => (sched (F := F) m ρ).payload (kcell (c, k)) 0 d) = payOf m ρ c d (some k) := by
  rw [Finset.sdiff_empty, duties_cell, h, bigSep_singleton, payload_cell]
/-- The barrier's round hands device `c` its slot of every other device's tables, the others counted by their places. -/
theorem rest_bar (c : Dev nD) :
    bigSep ((sched (F := F) m ρ).duties (barCell c) 0 \ ∅) (fun d => (sched (F := F) m ρ).payload (barCell c) 0 d)
      = bigSep (Finset.univ.erase (0 : Fin 8)) fun k => barPay c (nxt k c) := by
  rw [← bar_eq, Finset.sdiff_empty, duties_cell]
  have : dutyOf c (some none) = (Finset.univ.erase (0 : Fin 8)).map (rot c).toEmbedding := by
    show Finset.univ.erase c = _
    ext d
    simp only [Finset.mem_erase, Finset.mem_univ, and_true, Finset.mem_map, Equiv.coe_toEmbedding]
    constructor
    · intro h; exact ⟨dist c d, fun h0 => h (by rw [← nxt_dist c d, h0, nxt_zero]), nxt_dist c d⟩
    · rintro ⟨k, hk, rfl⟩; exact nxt_ne k hk c
  rw [this, bigSep_map]
  exact bigSep_congr fun k _ => payload_cell m ρ c none 0 _

theorem mem_duty (c : Dev nD) (k : Cl) (d : Dev nD) (h : d ∈ dutyOf c (some k)) : d ∈ (sched (F := F) m ρ).duties (kcell (c, k)) 0 := by
  rw [duties_cell]; exact h

theorem Nw_eq (j : Dev nD) : (wM j).view.dmaCredit = Nw := by unfold Nw; rfl
theorem Nc_eq (j : Dev nD) : (cM j).view.dmaCredit = Nc := by unfold Nc; rfl

theorem dutyOf_send (c : Dev nD) (t : Bool) {k : Fin 8} (hk : k ≠ 0) : dutyOf c (some (some (some (t, false, k)))) = {c} := if_neg hk
theorem dutyOf_recv (c : Dev nD) (t : Bool) {j : Dev nD} (hj : j ≠ c) : dutyOf c (some (some (some (t, true, j)))) = {j} := if_neg hj

/-! ## What each device owes at launch; the levels -/

/-- The places, in the order the kernel visits them. -/
abbrev places : List (Fin 8) := [1, 2, 3, 4, 5, 6, 7]

/-- Device `c`'s debts for the transfers to the places `ks`: the counts' first. -/
def owS (c : Dev nD) : List (Fin 8) → CellTallies nD τ sig Unit
  | [] => 0
  | k :: ks => (owS c ks + tallyAt (arrCell false true c (nxt k c)) () Nw) + tallyAt (arrCell true true c (nxt k c)) () Nc
/-- and, before those, for its words to the places `ks`. -/
def owB (c : Dev nD) : List (Fin 8) → CellTallies nD τ sig Unit
  | [] => owS c places
  | k :: ks => owB c ks + tallyAt (barCell (nxt k c)) () 1
def O₀ (c : Dev nD) : CellTallies nD τ sig Unit := owB c places

def L (g : GSem nD τ sig) : Finset Unit := if g.1.2 = .tc then {()} else ∅
/-- Barrier cells at 1, receive cells at 2, everything else at 0. -/
def lvOf : Option Cl → ℕ
  | some none => 1
  | some (some (some (_, true, _))) => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem lv_cell (c : Dev nD) (k : Cl) : lv (kcell (c, k)) () = lvOf (some k) := by unfold lv; rw [role_csem]

/-- Every debt of the transfers is to a receive cell, -/
theorem owS_pos (c : Dev nD) (ks : List (Fin 8)) {g : GSem nD τ sig} {u : Unit} (h : 0 < owS c ks g u) : g.1.2 = .tc ∧ lv g u = 2 := by
  induction ks with
  | nil => exact absurd h (Nat.lt_irrefl 0)
  | cons k ks ih =>
    unfold owS at h
    rw [Pi.add_apply, Finsupp.add_apply, Pi.add_apply, Finsupp.add_apply] at h
    have h3 : 0 < owS c ks g u ∨ 0 < (tallyAt (arrCell false true c (nxt k c)) () Nw : CellTallies nD τ sig Unit) g u
        ∨ 0 < (tallyAt (arrCell true true c (nxt k c)) () Nc : CellTallies nD τ sig Unit) g u := by omega
    rcases h3 with h | h | h
    · exact ih h
    · rw [tally_pos h]; exact ⟨rfl, lv_cell _ (some (some (false, true, c)))⟩
    · rw [tally_pos h]; exact ⟨rfl, lv_cell _ (some (some (true, true, c)))⟩
/-- and every debt at launch to a receive cell or a barrier cell. -/
theorem owB_pos (c : Dev nD) (ks : List (Fin 8)) {g : GSem nD τ sig} {u : Unit} (h : 0 < owB c ks g u) : g.1.2 = .tc ∧ 1 ≤ lv g u := by
  induction ks with
  | nil => obtain ⟨h1, h2⟩ := owS_pos c _ h; exact ⟨h1, by omega⟩
  | cons k ks ih =>
    unfold owB at h
    rw [Pi.add_apply, Finsupp.add_apply] at h
    have h3 : 0 < owB c ks g u ∨ 0 < (tallyAt (barCell (nxt k c)) () 1 : CellTallies nD τ sig Unit) g u := by omega
    rcases h3 with h | h
    · exact ih h
    · rw [tally_pos h]; exact ⟨rfl, le_of_eq (lv_cell _ none).symm⟩

/-- A wait below the level of everything owed. -/
theorem mayWait_below (c : Dev nD) (sm : SemLoc sig) (n : ℕ) (hsm : lv ((c : Thread nD τ), sm) () = n) (O : CellTallies nD τ sig Unit)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨d, t⟩, sm'⟩ := g
      have := (hO _ u hg).1; change t = .tc at this; subst this
      show u ∈ L ((d : Thread nD τ), sm'); rw [L_tc]; exact Finset.mem_singleton_self _)
    (fun p hp => by rw [Finset.mem_singleton.mp hp]; exact le_of_eq hsm)
    (fun g u hg => (hO g u hg).2)

theorem mayWait_bar (c : Dev nD) : (levAts L lv : sProp 𝕄) ⊢ MayWait (c : Thread nD τ) (.reg barS) () (owS c places) :=
  mayWait_below c _ 1 rfl _ fun g u h => by obtain ⟨h1, h2⟩ := owS_pos c _ h; exact ⟨h1, by omega⟩

/-- The staging semaphores' waits, at any time. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_below c _ 0 (by unfold lv role; dsimp only; rw [if_pos hq]; rfl) _ fun g u h => by
      obtain ⟨h1, h2⟩ := owB_pos c _ h; exact ⟨h1, by omega⟩
  · rw [MayWait_zero]; iintro -; iempintro

end Cert.KernelIdealRun

end
-- ==== Proof.KernelIdealSteps.lean ====
/-
# One lemma per operation of the exchange

Each is stated over a program that begins with the operation, the place `k`, the slot `j` or the cell a variable, the
names the program prints for devices, slots and semaphores given by equations.
-/
module

public import proofs.«01_k».proof.Proof.KernelIdealCommon

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed names -/

section Names

theorem dev_of {k : Fin 8} {c : Dev nD} {x : ℕ} (h : x = (c.val + k.val) % 8) (hlt : x < nD) : (⟨x, hlt⟩ : Dev nD) = nxt k c := Fin.ext h

theorem wM_of {off : Fin 4 → ℕ} {j : Dev nD} (h : off = ![j.val, 0, 0, 0]) (inb : ∀ a, off a + S1x2x128x256.size a ≤ S8x2x128x256.size a) :
    ((Memref.whole cc0_scratch0 : Memref sig .tc .vmem S8x2x128x256 .bf16).slice (Rect.unit (s := S8x2x128x256) off S1x2x128x256.size inb) (fun _ => rfl)).squeeze
      S2x128x256 squeezes_S1x2x128x256_S2x128x256 = wM j := by subst h; rfl
theorem cM_of {off : Fin 3 → ℕ} {j : Dev nD} (h : off = ![j.val, 0, 0]) (inb : ∀ a, off a + S1x1x128.size a ≤ S8x1x128.size a) :
    ((Memref.whole cc0_scratch1 : Memref sig .tc .vmem S8x1x128 .i32).slice (Rect.unit (s := S8x1x128) off S1x1x128.size inb) (fun _ => rfl)).squeeze
      S1x128 squeezes_S1x1x128_S1x128 = cM j := by subst h; rfl
theorem cR_of {off : Fin 3 → ℕ} {j : Dev nD} (h : off = ![j.val, 0, 0]) (inb : ∀ a, off a + S1x1x128.size a ≤ S8x1x128.size a) :
    Rect.unit (s := S8x1x128) off S1x1x128.size inb = cR j := by subst h; rfl

theorem inb1 (j : Fin 8) : ∀ a, (![j.val] : Fin 1 → ℕ) a + S1.size a ≤ S8.size a := by revert j; decide

theorem sem_ws {off : Fin 1 → ℕ} {j : Fin 8} (h : off = ![j.val]) (inb : ∀ a, off a + S1.size a ≤ S8.size a) :
    ((cc0_scratch3.slice (Rect.unit (s := S8) off S1.size inb)).squeeze S_ squeezes_S1_S_).sem = smS (false, false, j) := by
  subst h; revert j; decide
theorem sem_wr {off : Fin 1 → ℕ} {j : Fin 8} (h : off = ![j.val]) (inb : ∀ a, off a + S1.size a ≤ S8.size a) :
    ((cc0_scratch4.slice (Rect.unit (s := S8) off S1.size inb)).squeeze S_ squeezes_S1_S_).sem = smS (false, true, j) := by
  subst h; revert j; decide
theorem sem_cs {off : Fin 1 → ℕ} {j : Fin 8} (h : off = ![j.val]) (inb : ∀ a, off a + S1.size a ≤ S8.size a) :
    ((cc0_scratch5.slice (Rect.unit (s := S8) off S1.size inb)).squeeze S_ squeezes_S1_S_).sem = smS (true, false, j) := by
  subst h; revert j; decide
theorem sem_cr {off : Fin 1 → ℕ} {j : Fin 8} (h : off = ![j.val]) (inb : ∀ a, off a + S1.size a ≤ S8.size a) :
    ((cc0_scratch6.slice (Rect.unit (s := S8) off S1.size inb)).squeeze S_ squeezes_S1_S_).sem = smS (true, true, j) := by
  subst h; revert j; decide
theorem sem_copy : (cc0_scratch2 : DmaSems sig S_).sem = (4 : Fin 37) := by decide

end Names

/-! ## The shared context -/

/-- Every cell's invariant, that every cell has reached round 0, and the levels. -/
def ctx (K : Dev nD × Cl → ℕ) : sProp 𝕄 :=
  iprop((bigSep Finset.univ fun ck => cellInv ER (sched m ρ) (K ck) (kcell ck)) ∗ (bigSep Finset.univ fun ck => reached ER (kcell ck) 0) ∗ levAts L lv)

instance ctx_persistent (K : Dev nD × Cl → ℕ) : BI.Persistent (ctx (F := F) m ρ K) := by unfold ctx; infer_instance

variable (K : Dev nD × Cl → ℕ)

theorem one_of {I : Type} [DecidableEq I] {s : Finset I} {i : I} (h : i ∈ s) {Φ : I → sProp 𝕄} : (bigSep s Φ : sProp 𝕄) ⊢ Φ i :=
  bigSep_elim h

theorem ctx_inv (ck : Dev nD × Cl) : ctx m ρ K ⊢ cellInv ER (sched m ρ) (K ck) (kcell ck) := by
  unfold ctx; iintro ⟨H, -, -⟩
  iapply (one_of (Φ := fun ck => cellInv ER (sched m ρ) (K ck) (kcell ck)) (Finset.mem_univ ck)); iexact H
theorem ctx_reached (ck : Dev nD × Cl) : ctx m ρ K ⊢ reached ER (kcell ck) 0 := by
  unfold ctx; iintro ⟨-, H, -⟩
  iapply (one_of (Φ := fun ck => reached ER (kcell ck) 0) (Finset.mem_univ ck)); iexact H
theorem inv_bar (c : Dev nD) : ctx m ρ K ⊢ cellInv ER (sched m ρ) (K (c, none)) (barCell c) := ctx_inv m ρ K (c, none)
theorem inv_copy (c : Dev nD) : ctx m ρ K ⊢ cellInv ER (sched m ρ) (K (c, some none)) (copyCell c) := ctx_inv m ρ K (c, some none)
theorem inv_arr (t r : Bool) (j : Fin 8) (c : Dev nD) : ctx m ρ K ⊢ cellInv ER (sched m ρ) (K (c, some (some (t, r, j)))) (arrCell t r j c) :=
  ctx_inv m ρ K (c, some (some (t, r, j)))
theorem reached_bar (c : Dev nD) : ctx m ρ K ⊢ reached ER (barCell c) 0 := ctx_reached m ρ K (c, none)
theorem reached_copy (c : Dev nD) : ctx m ρ K ⊢ reached ER (copyCell c) 0 := ctx_reached m ρ K (c, some none)
theorem reached_arr (t r : Bool) (j : Fin 8) (c : Dev nD) : ctx m ρ K ⊢ reached ER (arrCell t r j c) 0 :=
  ctx_reached m ρ K (c, some (some (t, r, j)))
theorem ctx_lev : ctx m ρ K ⊢ levAts L lv := by
  unfold ctx; iintro ⟨-, -, H⟩; iexact H

abbrev 𝒱₀ : Variants := Variants.none

/-- The weakest precondition of device `c`'s program `p`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def ow (c : Dev nD) (O : CellTallies nD τ sig Unit) : sProp 𝕄 := iprop(∃ W, owes (c : Thread nD τ) O W)

/-- The word to the device `k` places on: it may write slot of it in `c`'s tables. -/
theorem signal_step {α : Type} {Q : α → sProp 𝕄} {k' : PUnit → Prog (TpuEff nD τ sig (Elt F) Λ₀ .tc) α}
    (c n : Dev nD) (k : Fin 8) (hk : k ≠ 0) (hn : n = nxt k c) (O : CellTallies nD τ sig Unit) :
    iprop(ctx m ρ K ∗ ow c (O + tallyAt (barCell (nxt k c)) () 1) ∗ dutyTok ER (barCell (nxt k c)) 0 c ∗ barPay (nxt k c) c)
      ⊢ iprop((ow c O -∗ WP c (k' ⟨⟩) Q) -∗ WP c (semSignalWord n barS 1#32 >>= k') Q) := by
  subst hn
  simp only [semSignalWord, Prog.bind_op, Prog.bind_ret]
  unfold ow
  have hd : c ∈ (sched (F := F) m ρ).duties (barCell (nxt k c)) 0 :=
    mem_duty m ρ (nxt k c) none c (Finset.mem_erase.mpr ⟨ne_nxt k hk c, Finset.mem_univ _⟩)
  have hpay : (sched (F := F) m ρ).payload (barCell (nxt k c)) 0 c = barPay (nxt k c) c := payload_cell m ρ (nxt k c) none 0 c
  iintro ⟨#Hctx, ⟨%W, HO⟩, Ht, Hp⟩ Hk
  iapply (Rounds.wp_signal 𝒱₀ ER (sched m ρ) (c : Thread nD τ) none (dst := (nxt k c : Thread nD τ)) (κ := K (nxt k c, none))
      (d := c) (r := 0) hd
      ((amount_cell m ρ (nxt k c) none 0 c).trans (by decide)) () O rfl) $$ [HO Ht Hp]
  · isplitr; · iapply (inv_bar m ρ K (nxt k c)); iexact Hctx
    isplitl [HO]; · iexact HO
    isplitl [Ht]; · iexact Ht
    isplitl [Hp]
    · rw [hpay]; iexact Hp
    · iapply (reached_bar m ρ K (nxt k c)); iexact Hctx
  iintro HO
  iapply Hk; iexists W; iexact HO

/-- The wait for the seven other devices' words. -/
theorem barrier_step {α : Type} {Q : α → sProp 𝕄} {k' : PUnit → Prog (TpuEff nD τ sig (Elt F) Λ₀ .tc) α}
    (c : Dev nD) (O : CellTallies nD τ sig Unit) (hO : O = owS c places) :
    iprop(ctx m ρ K ∗ ow c O ∗ cred (tallyAt (barCell c) () 7) ∗ atPos ER (barCell c) 0 ∅ 0)
      ⊢ iprop(((ow c O ∗ atPos ER (barCell c) 1 ∅ 0 ∗ bigSep (Finset.univ.erase (0 : Fin 8)) fun k => barPay c (nxt k c)) -∗ WP c (k' ⟨⟩) Q)
        -∗ WP c (semWaitWord barS 7#32 >>= k') Q) := by
  subst hO
  simp only [semWaitWord, Prog.bind_op, Prog.bind_ret]
  unfold ow
  iintro ⟨#Hctx, ⟨%W, HO⟩, Hc, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owS c places) (W := W) (R := 0) (m := 0) (T := ∅)
      (by rw [expect_bar]; decide)) $$ [HO Hc Hat]
  · isplitr; · iapply (inv_bar m ρ K (c)); iexact Hctx
    isplitl [Hc]; · iexact Hc
    isplitl [HO]; · iexact HO
    isplitr; · iapply (mayWait_bar c); iapply (ctx_lev m ρ K); iexact Hctx
    iexact Hat
  iintro ⟨HO, Hat, -, Hp⟩
  iapply Hk
  isplitl [HO]; · iexists _; iexact HO
  isplitl [Hat]; · iexact Hat
  iapply (Entails.of_eq (rest_bar m ρ c)); iexact Hp

/-- A transfer's wait on a cell of one duty, `d`'s, nothing owed: the duty's payload. -/
theorem wait_step {α : Type} {Q : α → sProp 𝕄} {k' : PUnit → Prog (TpuEff nD τ sig (Elt F) Λ₀ .tc) α}
    (c : Dev nD) (k : Cl) (d : Dev nD) (hd : dutyOf c (some k) = {d}) {sem sem' : DmaSem sig} (hk : csem k = .dma sem')
    (hsem : sem = sem')
    {sp sp' : Space} {s s' : Shape} {e e' : EltTy} {src : Memref sig .tc sp' s' e'} {dst : Memref sig .tc sp s e}
    {h1 : src.view.WordExact} {h2 : dst.view.WordExact} (hN : dst.view.dmaCredit = amountOf (some k)) :
    iprop(ctx m ρ K ∗ ow c 0 ∗ cred (tallyAt ((c : Thread nD τ), .dma sem') () (amountOf (some k))) ∗ atPos ER ((c : Thread nD τ), .dma sem') 0 ∅ 0)
      ⊢ iprop(((ow c 0 ∗ atPos ER ((c : Thread nD τ), .dma sem') 1 ∅ 0 ∗ payOf m ρ c d (some k)) -∗ WP c (k' ⟨⟩) Q)
        -∗ WP c (Prog.lift (.waitDma2 sem src dst h1 h2) >>= k') Q) := by
  subst hsem
  simp only [Prog.lift, Prog.bind_op, Prog.bind_ret]
  unfold ow
  have hcell : kcell (c, k) = ((c : Thread nD τ), SemLoc.dma sem) := by rw [← hk]
  have hI := ctx_inv m ρ K (c, k)
  have hR := rest_one m ρ c k d hd
  have hE := expect_one m ρ c k d hd
  rw [hcell] at hI hR hE
  rw [← hN]
  iintro ⟨#Hctx, ⟨%W, HO⟩, Hc, Hat⟩ Hk
  iapply (Rounds.wp_wait_rest_token 𝒱₀ ER (sched m ρ) (c : Thread nD τ) none (κ := K (c, k))
      (wpE_waitDma2_eq 𝒱₀ (c : Thread nD τ) none Set.univ) (Set.mem_univ _) () (O := 0) (W := W) (R := 0) (m := 0) (T := ∅)
      (by rw [Nat.zero_add, hE, hN])) $$ [HO Hc Hat]
  · isplitr; · iapply hI; iexact Hctx
    isplitl [Hc]; · iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  rw [← hR]; iexact Hp

/-- The local copy of `c`'s matrices into its own slot. -/
theorem copy_step {α : Type} {Q : α → sProp 𝕄} {k' : PUnit → Prog (TpuEff nD τ sig (Elt F) Λ₀ .tc) α}
    (c : Dev nD) {dst : Memref sig .tc .vmem S2x128x256 .bf16} (hdst : dst = wM c) {sem : DmaSem sig} (hsem : sem = (4 : Fin 37))
    {h1 : wStage.view.WordExact} {h2 : dst.view.WordExact} {h3 : DmaTarget.Typed (nD := nD) .vmem (.dma sem) (DmaTarget.here (p := .tc) dst)} :
    iprop(ctx m ρ K ∗ sTok m ρ c 0 ∗ (∃ f, wPts c c fullShare f) ∗ dutyTok ER (copyCell c) 0 c)
      ⊢ iprop((cred (tallyAt (copyCell c) () Nw) -∗ WP c (k' ⟨⟩) Q)
        -∗ WP c (Prog.lift (.enqueueDma wStage (.here dst) (.dma sem) h1 h2 h3) >>= k') Q) := by
  subst hdst hsem
  simp only [Prog.lift, Prog.bind_op, Prog.bind_ret]
  have hd : c ∈ (sched (F := F) m ρ).duties (copyCell c) 0 := mem_duty m ρ c (some none) c (Finset.mem_singleton_self _)
  have hpay : (sched (F := F) m ρ).payload (copyCell c) 0 c = copyPay m ρ c := payload_cell m ρ c (some none) 0 c
  iintro ⟨#Hctx, Hs, ⟨%f, Hd⟩, Ht⟩ Hk
  unfold sTok wPts
  iapply (Rounds.wp_copy_pointsTo 𝒱₀ ER (sched m ρ) (c : Thread nD τ) none (κ := K (c, some none)) (r := 0) (d := c)
      hd () Nw (Nw_eq c) (amount_cell m ρ c (some none) 0 c)
      (fs := wstg m ρ c) (fd := f) (q := shareTok fullShare 8 0) (by
        show _ ⊢ (sched (F := F) m ρ).payload (copyCell c) 0 c
        rw [hpay]
        unfold copyPay wPts sTok
        rw [pointsTo_congr (write_w m ρ c f)])) $$ [Hs Hd Ht]
  · isplitr; · iapply (inv_copy m ρ K c); iexact Hctx
    isplitl [Hs]; · iexact Hs
    isplitl [Hd]; · iexact Hd
    isplitl [Ht]; · iexact Ht
    iapply (reached_copy m ρ K c); iexact Hctx
  iintro Hc; iapply Hk; iexact Hc

/-- The counts to the device `k` places on. -/
theorem csend_step {α : Type} {Q : α → sProp 𝕄} {k' : PUnit → Prog (TpuEff nD τ sig (Elt F) Λ₀ .tc) α}
    (c n : Dev nD) (k : Fin 8) (hk : k ≠ 0) (hn : n = nxt k c) (O : CellTallies nD τ sig Unit)
    {src : Memref sig .tc .vmem S1x128 .i32} (hsrc : src = cM c) {dst : Memref sig .tc .vmem S1x128 .i32} (hdst : dst = cM c)
    {sS sem : DmaSem sig} (hsS : sS = smS (true, false, k)) (hsem : sem = smS (true, true, c))
    {hsc : (dst : Memref sig (Dev.tc n : Thread nD τ).2.kind .vmem S1x128 .i32).view.ref.isScScratch = false}
    {h1 : src.view.WordExact} {h2 : dst.view.WordExact}
    {h3 : DmaTarget.Typed .vmem (.dma sem) (DmaTarget.remote (p := .tc) (Dev.tc n : Thread nD τ) (dst : Memref sig .tc .vmem S1x128 .i32) (.dma sS) hsc)} :
    iprop(ctx m ρ K ∗ ow c (O + tallyAt (arrCell true true c (nxt k c)) () Nc) ∗ dutyTok ER (arrCell true false k c) 0 c
        ∗ dutyTok ER (arrCell true true c (nxt k c)) 0 c ∗ cTok m ρ c k ∗ (∃ f, cPts (nxt k c) c fullShare f))
      ⊢ iprop(((ow c O ∗ cred (tallyAt (arrCell true false k c) () Nc)) -∗ WP c (k' ⟨⟩) Q)
        -∗ WP c (Prog.lift (.enqueueDma src (DmaTarget.remote (p := .tc) (Dev.tc n : Thread nD τ) dst (.dma sS) hsc) (.dma sem) h1 h2 h3) >>= k') Q) := by
  subst hn hsrc hdst hsS hsem
  simp only [Prog.lift, Prog.bind_op, Prog.bind_ret]
  unfold ow
  have hd1 : c ∈ (sched (F := F) m ρ).duties (arrCell true false k c) 0 :=
    mem_duty m ρ c (some (some (true, false, k))) c (by rw [dutyOf_send c true hk]; exact Finset.mem_singleton_self _)
  have hd2 : c ∈ (sched (F := F) m ρ).duties (arrCell true true c (nxt k c)) 0 :=
    mem_duty m ρ (nxt k c) (some (some (true, true, c))) c (by rw [dutyOf_recv _ true (ne_nxt k hk c)]; exact Finset.mem_singleton_self _)
  have hp1 : (sched (F := F) m ρ).payload (arrCell true false k c) 0 c = cTok m ρ c k := payload_cell m ρ c (some (some (true, false, k))) 0 c
  have hp2 : (sched (F := F) m ρ).payload (arrCell true true c (nxt k c)) 0 c = cPts (nxt k c) c fullShare (GC m ρ) :=
    payload_cell m ρ (nxt k c) (some (some (true, true, c))) 0 c
  iintro ⟨#Hctx, ⟨%W, HO⟩, Ht1, Ht2, Hs, ⟨%f, Hd⟩⟩ Hk
  unfold cTok cPts
  iapply (Rounds.wp_send_pointsTo 𝒱₀ ER (sched m ρ) (c : Thread nD τ) none (κ₁ := K (c, some (some (true, false, k))))
      (κ₂ := K (nxt k c, some (some (true, true, c)))) (r₁ := 0) (r₂ := 0) (d₁ := c) (d₂ := c) (fs := GC m ρ) (fd := f) (q := shareTok fullShare 8 k)
      hd1 hd2
      () () Nc (Nc_eq c) (amount_cell m ρ c (some (some (true, false, k))) 0 c) (amount_cell m ρ (nxt k c) (some (some (true, true, c))) 0 c)
      O rfl (W := W)
      (by show _ ⊢ (sched (F := F) m ρ).payload (arrCell true false k c) 0 c; rw [hp1]; unfold cTok cPts; exact BI.Entails.refl _)
      (by show _ ⊢ (sched (F := F) m ρ).payload (arrCell true true c (nxt k c)) 0 c; rw [hp2]; unfold cPts; rw [pointsTo_congr (write_c c f (GC m ρ))])) $$ [HO Ht1 Ht2 Hs Hd]
  · isplitr; · iapply (inv_arr m ρ K true false k (c)); iexact Hctx
    isplitr; · iapply (inv_arr m ρ K true true c (nxt k c)); iexact Hctx
    isplitl [Hs]; · iexact Hs
    isplitl [Hd]; · iexact Hd
    isplitl [HO]; · iexact HO
    isplitl [Ht1]; · iexact Ht1
    isplitr; · iapply (reached_arr m ρ K true false k (c)); iexact Hctx
    isplitl [Ht2]; · iexact Ht2
    iapply (reached_arr m ρ K true true c (nxt k c)); iexact Hctx
  iintro ⟨Hc, HO⟩
  iapply Hk
  isplitl [HO]; · iexists W; iexact HO
  iexact Hc

/-- The matrices to the device `k` places on. -/
theorem wsend_step {α : Type} {Q : α → sProp 𝕄} {k' : PUnit → Prog (TpuEff nD τ sig (Elt F) Λ₀ .tc) α}
    (c n : Dev nD) (k : Fin 8) (hk : k ≠ 0) (hn : n = nxt k c) (O : CellTallies nD τ sig Unit)
    {dst : Memref sig .tc .vmem S2x128x256 .bf16} (hdst : dst = wM c)
    {sS sem : DmaSem sig} (hsS : sS = smS (false, false, k)) (hsem : sem = smS (false, true, c))
    {hsc : (dst : Memref sig (Dev.tc n : Thread nD τ).2.kind .vmem S2x128x256 .bf16).view.ref.isScScratch = false}
    {h1 : wStage.view.WordExact} {h2 : dst.view.WordExact}
    {h3 : DmaTarget.Typed .vmem (.dma sem) (DmaTarget.remote (p := .tc) (Dev.tc n : Thread nD τ) (dst : Memref sig .tc .vmem S2x128x256 .bf16) (.dma sS) hsc)} :
    iprop(ctx m ρ K ∗ ow c (O + tallyAt (arrCell false true c (nxt k c)) () Nw) ∗ dutyTok ER (arrCell false false k c) 0 c
        ∗ dutyTok ER (arrCell false true c (nxt k c)) 0 c ∗ sTok m ρ c k ∗ (∃ f, wPts (nxt k c) c fullShare f))
      ⊢ iprop(((ow c O ∗ cred (tallyAt (arrCell false false k c) () Nw)) -∗ WP c (k' ⟨⟩) Q)
        -∗ WP c (Prog.lift (.enqueueDma wStage (DmaTarget.remote (p := .tc) (Dev.tc n : Thread nD τ) dst (.dma sS) hsc) (.dma sem) h1 h2 h3) >>= k') Q) := by
  subst hn hdst hsS hsem
  simp only [Prog.lift, Prog.bind_op, Prog.bind_ret]
  unfold ow
  have hd1 : c ∈ (sched (F := F) m ρ).duties (arrCell false false k c) 0 :=
    mem_duty m ρ c (some (some (false, false, k))) c (by rw [dutyOf_send c false hk]; exact Finset.mem_singleton_self _)
  have hd2 : c ∈ (sched (F := F) m ρ).duties (arrCell false true c (nxt k c)) 0 :=
    mem_duty m ρ (nxt k c) (some (some (false, true, c))) c (by rw [dutyOf_recv _ false (ne_nxt k hk c)]; exact Finset.mem_singleton_self _)
  have hp1 : (sched (F := F) m ρ).payload (arrCell false false k c) 0 c = sTok m ρ c k := payload_cell m ρ c (some (some (false, false, k))) 0 c
  have hp2 : (sched (F := F) m ρ).payload (arrCell false true c (nxt k c)) 0 c = wPts (nxt k c) c fullShare (GW m ρ) :=
    payload_cell m ρ (nxt k c) (some (some (false, true, c))) 0 c
  iintro ⟨#Hctx, ⟨%W, HO⟩, Ht1, Ht2, Hs, ⟨%f, Hd⟩⟩ Hk
  unfold sTok wPts
  iapply (Rounds.wp_send_pointsTo 𝒱₀ ER (sched m ρ) (c : Thread nD τ) none (κ₁ := K (c, some (some (false, false, k))))
      (κ₂ := K (nxt k c, some (some (false, true, c)))) (r₁ := 0) (r₂ := 0) (d₁ := c) (d₂ := c) (fs := wstg m ρ c) (fd := f) (q := shareTok fullShare 8 k)
      hd1 hd2
      () () Nw (Nw_eq c) (amount_cell m ρ c (some (some (false, false, k))) 0 c) (amount_cell m ρ (nxt k c) (some (some (false, true, c))) 0 c)
      O rfl (W := W)
      (by show _ ⊢ (sched (F := F) m ρ).payload (arrCell false false k c) 0 c; rw [hp1]; unfold sTok; exact BI.Entails.refl _)
      (by show _ ⊢ (sched (F := F) m ρ).payload (arrCell false true c (nxt k c)) 0 c; rw [hp2]; unfold wPts; rw [pointsTo_congr (write_w m ρ c f)])) $$ [HO Ht1 Ht2 Hs Hd]
  · isplitr; · iapply (inv_arr m ρ K false false k (c)); iexact Hctx
    isplitr; · iapply (inv_arr m ρ K false true c (nxt k c)); iexact Hctx
    isplitl [Hs]; · iexact Hs
    isplitl [Hd]; · iexact Hd
    isplitl [HO]; · iexact HO
    isplitl [Ht1]; · iexact Ht1
    isplitr; · iapply (reached_arr m ρ K false false k (c)); iexact Hctx
    isplitl [Ht2]; · iexact Ht2
    iapply (reached_arr m ρ K false true c (nxt k c)); iexact Hctx
  iintro ⟨Hc, HO⟩
  iapply Hk
  isplitl [HO]; · iexists W; iexact HO
  iexact Hc

end Cert.KernelIdealRun

end
-- ==== Proof.KernelIdealMoves.lean ====
/-
# Loads, stores and guarded waits of the exchange

The kernel's remaining moves, in the same shape as the transfers': the loads and stores of the staged blocks and of the
tables, and the waits guarded by "slot `dd` is not my own", which hand over slot `dd` when it is another device's and
do nothing when it is the device's own.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cl → ℕ)

/-! ## Loads and stores -/

theorem load_step {α : Type} {Q : α → sProp 𝕄} (c : Dev nD) {cs : CoreSpace} {s : Shape} {e : EltTy} {mr : Memref sig .tc (.core cs) s e} {r : LoadRect s}
    {hl : mr.view.LoadsAt r} {k : (r.shape.Idx → Elt F e) → Prog (TpuEff nD τ sig (Elt F) Λ₀ .tc) α}
    {S : Finset (Idx (mr.view.loc (c : Thread nD τ)))} {q : PosShare TreeShare} {f : Buf (Elt F) (mr.view.loc (c : Thread nD τ))}
    (hS : mr.view.setOn r.set ⊆ S) {x : r.shape.Idx → Elt F e} (hx : mr.view.readAt (Elt F) r f = x) :
    (mr.view.loc (c : Thread nD τ) ↦[S]{q} f : sProp 𝕄)
      ⊢ iprop(((mr.view.loc (c : Thread nD τ) ↦[S]{q} f) -∗ WP c (k x) Q) -∗ WP c (Prog.lift (.load mr r hl) >>= k) Q) := by
  subst hx
  simp only [Prog.lift, Prog.bind_op, Prog.bind_ret]
  exact wp_load 𝒱₀ (c : Thread nD τ) none Set.univ hS

theorem store_step {α : Type} {Q : α → sProp 𝕄} (c : Dev nD) {cs : CoreSpace} {s : Shape} {e : EltTy} {mr : Memref sig .tc (.core cs) s e} {r : Rect s}
    {w : r.shape.Idx → Elt F e} {Mk : Finset r.shape.Idx} {hx : (mr.access r).Stores Mk} {hm : Mk = Finset.univ ∨ ∀ (a : Fin s.rank), r.stride a = 1}
    {k : PUnit → Prog (TpuEff nD τ sig (Elt F) Λ₀ .tc) α}
    {S : Finset (Idx ((mr.access r).loc (c : Thread nD τ)))} {f g : Buf (Elt F) ((mr.access r).loc (c : Thread nD τ))}
    (hS : (mr.access r).setOn Mk ⊆ S) (hg : ∀ i ∈ S, (mr.access r).write (Elt F) f w Mk i = g i) :
    ((mr.access r).loc (c : Thread nD τ) ↦[S]{fullShare} f : sProp 𝕄)
      ⊢ iprop((((mr.access r).loc (c : Thread nD τ) ↦[S]{fullShare} g) -∗ WP c (k ⟨⟩) Q) -∗ WP c (Prog.lift (.store mr r w Mk hx hm) >>= k) Q) := by
  simp only [Prog.lift, Prog.bind_op, Prog.bind_ret]
  rw [← pointsTo_congr hg]
  exact wp_store 𝒱₀ (c : Thread nD τ) none Set.univ hS

theorem dev_step {α : Type} {Q : α → sProp 𝕄} (c : Dev nD) {k : Dev nD → Prog (TpuEff nD τ sig (Elt F) Λ₀ .tc) α} :
    WP c (Prog.lift .deviceId >>= k) Q = WP c (k c) Q := by
  simp only [Prog.lift, Prog.bind_op, Prog.bind_ret]
  exact wp_deviceId 𝒱₀ (c : Thread nD τ) none Set.univ

theorem ret_step {α : Type} {Q : α → sProp 𝕄} (c : Dev nD) (a : α) : Q a ⊢ WP c (pure a) Q := by
  rw [Prog.pure_eq_ret]; show Q a ⊢ wp frame _ _ (Prog.ret a) Q; rw [wp_ret]; exact fupd_intro

omit [FloatOps F] in
theorem wPts_eq (d j : Dev nD) (q : PosShare TreeShare) (f : (cc0_scratch0 : Ref sig .tc).ty.Contents (Elt F)) :
    (wPts d j q f : sProp 𝕄) = (((d : Thread nD τ).loc cc0_scratch0) ↦[wSet j]{q} f) := rfl
omit [FloatOps F] in
theorem cPts_eq (d j : Dev nD) (q : PosShare TreeShare) (f : (cc0_scratch1 : Ref sig .tc).ty.Contents (Elt F)) :
    (cPts d j q f : sProp 𝕄) = (((d : Thread nD τ).loc cc0_scratch1) ↦[cSet j]{q} f) := rfl

/-- Matrix `s` of slot `d` of the gathered weight table, as the kernel loads it. -/
def WL (d : Dev nD) (s : Fin 2) : Vec F S1x1x128x256 .bf16 := fun y =>
  GW m ρ (ix4 (n0 := 8) (n1 := 2) (n2 := 128) (n3 := 256) d s (y 2) (y 3))

theorem W_emb (d : Dev nD) (s : Fin 2) (inb : ∀ a, (![d.val, s.val, 0, 0] : Fin 4 → ℕ) a + S1x1x128x256.size a ≤ S8x2x128x256.size a) (y : S1x1x128x256.Idx) :
    (Rect.unit (s := S8x2x128x256) ![d.val, s.val, 0, 0] S1x1x128x256.size inb).emb y
      = ix4 (n0 := 8) (n1 := 2) (n2 := 128) (n3 := 256) d s (y 2) (y 3) := by
  have h0 : (y 0).val = 0 := by have : (y 0).val < 1 := (y 0).isLt; omega
  have h1 : (y 1).val = 0 := by have : (y 1).val < 1 := (y 1).isLt; omega
  funext a; apply Fin.ext
  fin_cases a
  · show d.val + 1 * (y 0).val = d.val; omega
  · show s.val + 1 * (y 1).val = s.val; omega
  · show 0 + 1 * (y 2).val = (y 2).val; omega
  · show 0 + 1 * (y 3).val = (y 3).val; omega

theorem W_set (d : Dev nD) (s : Fin 2) (inb : ∀ a, (![d.val, s.val, 0, 0] : Fin 4 → ℕ) a + S1x1x128x256.size a ≤ S8x2x128x256.size a) :
    (Memref.whole cc0_scratch0 : Memref sig .tc .vmem S8x2x128x256 .bf16).view.setOn (Rect.unit (s := S8x2x128x256) ![d.val, s.val, 0, 0] S1x1x128x256.size inb).toLoadRect.set ⊆ wSet d := by
  intro i hi
  have hi : i ∈ (Rect.unit (s := S8x2x128x256) ![d.val, s.val, 0, 0] S1x1x128x256.size inb).set := by
    obtain ⟨y, hy, he⟩ := Finset.mem_map.mp hi
    have : y = i := he
    rw [← this]; exact hy
  rw [mem_wSet]
  have h0 := (Rect.mem_set_unit.mp hi) 0
  change d.val ≤ (i 0).val ∧ (i 0).val < d.val + 1 at h0
  omega

theorem W_read (d : Dev nD) (s : Fin 2) (inb : ∀ a, (![d.val, s.val, 0, 0] : Fin 4 → ℕ) a + S1x1x128x256.size a ≤ S8x2x128x256.size a) :
    (Memref.whole cc0_scratch0 : Memref sig .tc .vmem S8x2x128x256 .bf16).view.readAt (Elt F) (Rect.unit (s := S8x2x128x256) ![d.val, s.val, 0, 0] S1x1x128x256.size inb).toLoadRect (GW m ρ)
      = WL m ρ d s := by
  funext y
  exact congrArg (GW m ρ) (W_emb d s inb y)

theorem hz2 : (![0, 0] : Fin 2 → ℕ) = fun _ => 0 := by funext a; fin_cases a <;> rfl
theorem hz3 : (![0, 0, 0] : Fin 3 → ℕ) = fun _ => 0 := by funext a; fin_cases a <;> rfl

/-! ## The guarded waits -/

/-- What device `c` holds of slot `j`'s arrival before waiting for it: its place on the receive semaphore and, unless the
    slot is its own, the credit. -/
def cWait (c j : Dev nD) : sProp 𝕄 := iprop(atPos ER (arrCell true true j c) 0 ∅ 0 ∗ if j = c then emp else cred (tallyAt (arrCell true true j c) () Nc))
def wWait (c j : Dev nD) : sProp 𝕄 := iprop(atPos ER (arrCell false true j c) 0 ∅ 0 ∗ if j = c then emp else cred (tallyAt (arrCell false true j c) () Nw))
/-- and after: the slot, with the other device's contents, unless it is its own. -/
def cGot (c j : Dev nD) : sProp 𝕄 := iprop(atPos ER (arrCell true true j c) (if j = c then 0 else 1) ∅ 0 ∗ if j = c then emp else cPts c j fullShare (GC m ρ))
def wGot (c j : Dev nD) : sProp 𝕄 := iprop(atPos ER (arrCell false true j c) (if j = c then 0 else 1) ∅ 0 ∗ if j = c then emp else wPts c j fullShare (GW m ρ))

theorem cond_c {α : Type} {Q : α → sProp 𝕄} {rest : Prog (TpuEff nD τ sig (Elt F) Λ₀ .tc) α}
    (c j : Dev nD) {v : BitVec 1} (hv : v = 1#1 ↔ j ≠ c) {inst : Decidable (v = 1#1)} {sem : DmaSem sig} (hsem : sem = smS (true, true, j))
    {src dst : Memref sig .tc .vmem S1x128 .i32} {h1 : src.view.WordExact} {h2 : dst.view.WordExact} (hdst : dst = cM j) :
    iprop(ctx m ρ K ∗ ow c 0 ∗ cWait c j)
      ⊢ iprop(((ow c 0 ∗ cGot m ρ c j) -∗ WP c rest Q)
        -∗ WP c (@dite _ (v = 1#1) inst (fun _ => Prog.lift (.waitDma2 sem src dst h1 h2) >>= fun _ => rest) (fun _ => rest)) Q) := by
  unfold cWait cGot
  by_cases hj : j = c
  · rw [dif_neg (fun h => hv.mp h hj), if_pos hj, if_pos hj, if_pos hj]
    iintro ⟨-, HO, Hat, -⟩ Hk
    iapply Hk
    isplitl [HO]; · iexact HO
    isplitl [Hat]; · iexact Hat
    iempintro
  · rw [dif_pos (hv.mpr hj), if_neg hj, if_neg hj, if_neg hj]
    iintro ⟨#Hctx, HO, Hat, Hc⟩ Hk
    iapply (wait_step m ρ K c (some (some (true, true, j))) j (dutyOf_recv c true hj) rfl hsem (by rw [hdst]; exact Nc_eq j)) $$ [HO Hat Hc]
    · isplitr; · iexact Hctx
      isplitl [HO]; · iexact HO
      isplitl [Hc]; · iexact Hc
      iexact Hat
    iintro ⟨HO, Hat, Hp⟩
    iapply Hk
    isplitl [HO]; · iexact HO
    isplitl [Hat]; · iexact Hat
    iapply (Entails.of_eq (show payOf m ρ c j (some (some (some (true, true, j)))) = cPts c j fullShare (GC m ρ) from rfl)); iexact Hp

theorem cond_w {α : Type} {Q : α → sProp 𝕄} {rest : Prog (TpuEff nD τ sig (Elt F) Λ₀ .tc) α}
    (c j : Dev nD) {v : BitVec 1} (hv : v = 1#1 ↔ j ≠ c) {inst : Decidable (v = 1#1)} {sem : DmaSem sig} (hsem : sem = smS (false, true, j))
    {src dst : Memref sig .tc .vmem S2x128x256 .bf16} {h1 : src.view.WordExact} {h2 : dst.view.WordExact} (hdst : dst = wM j) :
    iprop(ctx m ρ K ∗ ow c 0 ∗ wWait c j)
      ⊢ iprop(((ow c 0 ∗ wGot m ρ c j) -∗ WP c rest Q)
        -∗ WP c (@dite _ (v = 1#1) inst (fun _ => Prog.lift (.waitDma2 sem src dst h1 h2) >>= fun _ => rest) (fun _ => rest)) Q) := by
  unfold wWait wGot
  by_cases hj : j = c
  · rw [dif_neg (fun h => hv.mp h hj), if_pos hj, if_pos hj, if_pos hj]
    iintro ⟨-, HO, Hat, -⟩ Hk
    iapply Hk
    isplitl [HO]; · iexact HO
    isplitl [Hat]; · iexact Hat
    iempintro
  · rw [dif_pos (hv.mpr hj), if_neg hj, if_neg hj, if_neg hj]
    iintro ⟨#Hctx, HO, Hat, Hc⟩ Hk
    iapply (wait_step m ρ K c (some (some (false, true, j))) j (dutyOf_recv c false hj) rfl hsem (by rw [hdst]; exact Nw_eq j)) $$ [HO Hat Hc]
    · isplitr; · iexact Hctx
      isplitl [HO]; · iexact HO
      isplitl [Hc]; · iexact Hc
      iexact Hat
    iintro ⟨HO, Hat, Hp⟩
    iapply Hk
    isplitl [HO]; · iexact HO
    isplitl [Hat]; · iexact Hat
    iapply (Entails.of_eq (show payOf m ρ c j (some (some (some (false, true, j)))) = wPts c j fullShare (GW m ρ) from rfl)); iexact Hp

/-- A load of matrix `s` of slot `j`, the device's own or one that has arrived. -/
theorem loadW_step {α : Type} {Q : α → sProp 𝕄} (c j : Dev nD) (s : Fin 2) {off : Fin 4 → ℕ} (hoff : off = ![j.val, s.val, 0, 0])
    {inb : ∀ a, off a + S1x1x128x256.size a ≤ S8x2x128x256.size a}
    {hl : (Memref.whole cc0_scratch0 : Memref sig .tc .vmem S8x2x128x256 .bf16).view.LoadsAt (Rect.unit (s := S8x2x128x256) off S1x1x128x256.size inb).toLoadRect}
    {k : Vec F S1x1x128x256 .bf16 → Prog (TpuEff nD τ sig (Elt F) Λ₀ .tc) α} :
    iprop(wPts c c fullShare (GW m ρ) ∗ wGot m ρ c j)
      ⊢ iprop(((wPts c c fullShare (GW m ρ) ∗ wGot m ρ c j) -∗ WP c (k (WL m ρ j s)) Q)
        -∗ WP c (Prog.lift (.load (Memref.whole cc0_scratch0) (Rect.unit (s := S8x2x128x256) off S1x1x128x256.size inb).toLoadRect hl) >>= k) Q) := by
  subst hoff
  unfold wGot
  by_cases hj : j = c
  · subst hj
    simp only [if_true]
    rw [wPts_eq]
    iintro ⟨Hw, Hr⟩ Hk
    iapply (load_step (F := F) j (mr := (Memref.whole cc0_scratch0 : Memref sig .tc .vmem S8x2x128x256 .bf16)) (W_set j s inb) (W_read m ρ j s inb)) $$ Hw
    iintro Hw
    iapply Hk
    isplitl [Hw]; · iexact Hw
    iexact Hr
  · rw [if_neg hj, if_neg hj, wPts_eq c j]
    iintro ⟨Hw, Hat, Hr⟩ Hk
    iapply (load_step (F := F) c (mr := (Memref.whole cc0_scratch0 : Memref sig .tc .vmem S8x2x128x256 .bf16)) (W_set j s inb) (W_read m ρ j s inb)) $$ Hr
    iintro Hr
    iapply Hk
    isplitl [Hw]; · iexact Hw
    isplitl [Hat]; · iexact Hat
    iexact Hr

/-- Which device this is, as the kernel computes it. -/
abbrev myId (c : Dev nD) : BitVec 32 := Scalar.remsi (Scalar.divsi (Dev.word c) 1#32) 8#32

theorem guard (c j : Dev nD) : Scalar.cmpi .ne (Scalar.extui (Scalar.cmpi .ne (myId c) (BitVec.ofNat 32 j.val)) : BitVec 32) 0#32 = 1#1 ↔ j ≠ c := by
  revert c j; decide

/-! ## The transfers' resources, by place -/

/-- What the transfer of the counts to the device `k` places on takes, and what it leaves. -/
def cRes (c : Dev nD) (k : Fin 8) : sProp 𝕄 := iprop(dutyTok ER (arrCell true false k c) 0 c ∗ dutyTok ER (arrCell true true c (nxt k c)) 0 c
  ∗ cTok m ρ c k ∗ ∃ f, cPts (nxt k c) c fullShare f)
def wRes (c : Dev nD) (k : Fin 8) : sProp 𝕄 := iprop(dutyTok ER (arrCell false false k c) 0 c ∗ dutyTok ER (arrCell false true c (nxt k c)) 0 c
  ∗ sTok m ρ c k ∗ ∃ f, wPts (nxt k c) c fullShare f)
def cOut (c : Dev nD) (k : Fin 8) : sProp 𝕄 := cred (tallyAt (arrCell true false k c) () Nc)
def wOut (c : Dev nD) (k : Fin 8) : sProp 𝕄 := cred (tallyAt (arrCell false false k c) () Nw)
/-- Before the wait that its source may be reused, and after. -/
def cPend (c : Dev nD) (k : Fin 8) : sProp 𝕄 := iprop(cOut c k ∗ atPos ER (arrCell true false k c) 0 ∅ 0)
def wPend (c : Dev nD) (k : Fin 8) : sProp 𝕄 := iprop(wOut c k ∗ atPos ER (arrCell false false k c) 0 ∅ 0)
def cDone (c : Dev nD) (k : Fin 8) : sProp 𝕄 := iprop(atPos ER (arrCell true false k c) 1 ∅ 0 ∗ cTok m ρ c k)
def wDone (c : Dev nD) (k : Fin 8) : sProp 𝕄 := iprop(atPos ER (arrCell false false k c) 1 ∅ 0 ∗ sTok m ρ c k)
/-- What the word to the device `k` places on takes. -/
def sigRes (c : Dev nD) (k : Fin 8) : sProp 𝕄 := iprop(dutyTok ER (barCell (nxt k c)) 0 c ∗ barPay (nxt k c) c)

theorem wWaitS_step {α : Type} {Q : α → sProp 𝕄} {k' : PUnit → Prog (TpuEff nD τ sig (Elt F) Λ₀ .tc) α}
    (c : Dev nD) (k : Fin 8) (hk : k ≠ 0) {sem : DmaSem sig} (hsem : sem = smS (false, false, k))
    {sp' : Space} {s' : Shape} {e' : EltTy} {src : Memref sig .tc sp' s' e'} {h1 : src.view.WordExact} {h2 : wStage.view.WordExact} :
    iprop(ctx m ρ K ∗ ow c 0 ∗ wPend c k) ⊢ iprop(((ow c 0 ∗ wDone m ρ c k) -∗ WP c (k' ⟨⟩) Q)
        -∗ WP c (Prog.lift (.waitDma2 sem src wStage h1 h2) >>= k') Q) := by
  unfold wPend wDone wOut
  iintro ⟨#Hctx, HO, Hc, Hat⟩ Hk
  iapply (wait_step m ρ K c (some (some (false, false, k))) c (dutyOf_send c false hk) rfl hsem (by unfold amountOf Nw; rfl)) $$ [HO Hat Hc]
  · isplitr; · iexact Hctx
    isplitl [HO]; · iexact HO
    isplitl [Hc]; · iexact Hc
    iexact Hat
  iintro ⟨HO, Hat, Hp⟩
  iapply Hk
  isplitl [HO]; · iexact HO
  isplitl [Hat]; · iexact Hat
  iapply (Entails.of_eq (show payOf m ρ c c (some (some (some (false, false, k)))) = sTok m ρ c k from rfl)); iexact Hp

theorem cWaitS_step {α : Type} {Q : α → sProp 𝕄} {k' : PUnit → Prog (TpuEff nD τ sig (Elt F) Λ₀ .tc) α}
    (c : Dev nD) (k : Fin 8) (hk : k ≠ 0) {sem : DmaSem sig} (hsem : sem = smS (true, false, k))
    {src dst : Memref sig .tc .vmem S1x128 .i32} {h1 : src.view.WordExact} {h2 : dst.view.WordExact} (hdst : dst = cM c) :
    iprop(ctx m ρ K ∗ ow c 0 ∗ cPend c k) ⊢ iprop(((ow c 0 ∗ cDone m ρ c k) -∗ WP c (k' ⟨⟩) Q)
        -∗ WP c (Prog.lift (.waitDma2 sem src dst h1 h2) >>= k') Q) := by
  unfold cPend cDone cOut
  iintro ⟨#Hctx, HO, Hc, Hat⟩ Hk
  iapply (wait_step m ρ K c (some (some (true, false, k))) c (dutyOf_send c true hk) rfl hsem (by rw [hdst]; exact Nc_eq c)) $$ [HO Hat Hc]
  · isplitr; · iexact Hctx
    isplitl [HO]; · iexact HO
    isplitl [Hc]; · iexact Hc
    iexact Hat
  iintro ⟨HO, Hat, Hp⟩
  iapply Hk
  isplitl [HO]; · iexact HO
  isplitl [Hat]; · iexact Hat
  iapply (Entails.of_eq (show payOf m ρ c c (some (some (some (true, false, k)))) = cTok m ρ c k from rfl)); iexact Hp

end Cert.KernelIdealRun

end
-- ==== Proof.KernelIdealTables.lean ====
/-
# Holding a table whole

The slots of a table put together and taken apart, and lists of eight.
-/
module

public import proofs.«01_k».proof.Proof.KernelIdealMoves

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cl → ℕ)

/-- The share of the device's own slot and of its staged matrices that stays with it while the others are lent. -/
abbrev qKeep : PosShare TreeShare := shareDrop fullShare 8

/-! ## Eight and seven at a time -/

section lists
omit [FloatOps F]
theorem bi_eq {P Q : sProp 𝕄} (h : P ⊢ Q) (h' : Q ⊢ P) : P = Q := equiv_iff.mp ⟨h, h'⟩
theorem emp_sep_eq (P : sProp 𝕄) : iprop(emp ∗ P) = P := equiv_iff.mp emp_sep
theorem sep_emp_eq (P : sProp 𝕄) : iprop(P ∗ emp) = P := equiv_iff.mp sep_emp
theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_eq_bigSepL_of_eq ([0, 1, 2, 3, 4, 5, 6, 7] : List (Fin 8)) (by decide) (by decide)]; rfl
theorem seven (Φ : Fin 8 → sProp 𝕄) :
    bigSep (Finset.univ.erase 0) Φ = iprop(Φ 1 ∗ Φ 2 ∗ Φ 3 ∗ Φ 4 ∗ Φ 5 ∗ Φ 6 ∗ Φ 7) := by
  rw [bigSep_eq_bigSepL_of_eq ([1, 2, 3, 4, 5, 6, 7] : List (Fin 8)) (by decide) (by decide)]; rfl

/-- One summand, as a sum over all with the others empty. -/
theorem at_only (c : Fin 8) (Φ : Fin 8 → sProp 𝕄) : Φ c = bigSep Finset.univ fun j => (if j = c then Φ j else iprop(emp) : sProp 𝕄) := by
  rw [bigSep_univ_at _ c, if_pos rfl, bigSep_congr (Ψ := fun _ => (iprop(emp) : sProp 𝕄)) (fun j hj => if_neg (Finset.ne_of_mem_erase hj))]
  exact (sep_emp_eq (Φ c)).symm.trans (congrArg (fun X => iprop(Φ c ∗ X)) (bigSep_emp_const _).symm)

theorem sep_left (P Q R : sProp 𝕄) : iprop(P ∗ Q ∗ R) = iprop(Q ∗ P ∗ R) :=
  bi_eq
    (by
      iintro ⟨Hp, Hq, Hr⟩
      isplitl [Hq]; · iexact Hq
      isplitl [Hp]; · iexact Hp
      iexact Hr)
    (by
      iintro ⟨Hp, Hq, Hr⟩
      isplitl [Hq]; · iexact Hq
      isplitl [Hp]; · iexact Hp
      iexact Hr)
end lists

/-! ## Slots and tables -/

section slots
omit [FloatOps F]
theorem w_slots (d : Dev nD) (q : PosShare TreeShare) (f : (cc0_scratch0 : Ref sig .tc).ty.Contents (Elt F)) :
    (((d : Thread nD τ).loc cc0_scratch0) ↦{q} f : sProp 𝕄) = bigSep (Finset.univ : Finset (Dev nD)) fun j => wPts d j q f := by
  rw [← wSet_univ]
  exact pointsTo_biUnion (ℓ := ((d : Thread nD τ).loc cc0_scratch0)) Finset.univ wSet wSet_disj
theorem c_slots (d : Dev nD) (q : PosShare TreeShare) (f : (cc0_scratch1 : Ref sig .tc).ty.Contents (Elt F)) :
    (((d : Thread nD τ).loc cc0_scratch1) ↦{q} f : sProp 𝕄) = bigSep (Finset.univ : Finset (Dev nD)) fun j => cPts d j q f := by
  rw [← cSet_univ]
  exact pointsTo_biUnion (ℓ := ((d : Thread nD τ).loc cc0_scratch1)) Finset.univ cSet cSet_disj
end slots

/-- A slot held whole, as what is kept and eight read shares. -/
theorem c_shares (d j : Dev nD) (f : (cc0_scratch1 : Ref sig .tc).ty.Contents (Elt F)) :
    (cPts d j fullShare f : sProp 𝕄) = iprop(cPts d j qKeep f ∗ bigSep Finset.univ fun k : Fin 8 => cPts d j (shareTok fullShare 8 k) f) :=
  bi_eq (pointsTo_toks fullShare 8).1 (pointsTo_toks fullShare 8).2
theorem s_shares (c : Dev nD) :
    (((c : Thread nD τ).loc cc0_stg2_0) ↦{fullShare} wstg m ρ c : sProp 𝕄)
      = iprop((((c : Thread nD τ).loc cc0_stg2_0) ↦{qKeep} wstg m ρ c) ∗ bigSep Finset.univ fun k : Fin 8 => sTok m ρ c k) := by
  rw [show (fun k : Fin 8 => sTok m ρ c k) = fun k => (((c : Thread nD τ).loc cc0_stg2_0) ↦{shareTok fullShare 8 k} wstg m ρ c : sProp 𝕄) from
    funext fun k => by unfold sTok; rw [show wStage.view.set = Finset.univ from View.set_whole _]]
  exact bi_eq (pointsTo_toks fullShare 8).1 (pointsTo_toks fullShare 8).2

/-- What is left of slot `j`'s arrival beside the kept share of the slot. -/
def cRest (c j : Dev nD) : sProp 𝕄 := iprop(atPos ER (arrCell true true j c) (if j = c then 0 else 1) ∅ 0
  ∗ if j = c then emp else bigSep Finset.univ fun k : Fin 8 => cPts c j (shareTok fullShare 8 k) (GC m ρ))

theorem cGot_eq (c j : Dev nD) :
    iprop((if j = c then cPts c j qKeep (GC m ρ) else emp) ∗ cGot m ρ c j) = iprop(cPts c j qKeep (GC m ρ) ∗ cRest m ρ c j) := by
  unfold cGot cRest
  by_cases hj : j = c
  · simp only [if_pos hj]
  · simp only [if_neg hj]
    rw [emp_sep_eq, c_shares, sep_left]

/-- The count table once everything has arrived: the kept share of it whole, and what is left beside. -/
theorem c_table (c : Dev nD) :
    iprop(cPts c c qKeep (GC m ρ) ∗ bigSep Finset.univ (cGot m ρ c))
      = iprop((((c : Thread nD τ).loc cc0_scratch1) ↦{qKeep} GC m ρ) ∗ bigSep Finset.univ (cRest m ρ c)) := by
  rw [at_only c (fun j => cPts c j qKeep (GC m ρ)), ← bigSep_sep', c_slots, ← bigSep_sep']
  exact bigSep_congr fun j _ => cGot_eq m ρ c j

/-- The load of the whole table. -/
theorem loadT_step {α : Type} {Q : α → sProp 𝕄} (c : Dev nD)
    {inb : ∀ a, (![0, 0, 0] : Fin 3 → ℕ) a + S8x1x128.size a ≤ S8x1x128.size a}
    {hl : (Memref.whole cc0_scratch1 : Memref sig .tc .vmem S8x1x128 .i32).view.LoadsAt (Rect.unit (s := S8x1x128) ![0, 0, 0] S8x1x128.size inb).toLoadRect}
    {k : _ → Prog (TpuEff nD τ sig (Elt F) Λ₀ .tc) α} :
    iprop(cPts c c qKeep (GC m ρ) ∗ bigSep Finset.univ (cGot m ρ c))
      ⊢ iprop(((cPts c c qKeep (GC m ρ) ∗ bigSep Finset.univ (cGot m ρ c)) -∗ WP c (k (GC m ρ)) Q)
        -∗ WP c (Prog.lift (.load (Memref.whole cc0_scratch1 : Memref sig .tc .vmem S8x1x128 .i32) (Rect.unit (s := S8x1x128) ![0, 0, 0] S8x1x128.size inb).toLoadRect hl) >>= k) Q) := by
  rw [c_table]
  iintro ⟨Hc, Hr⟩ Hk
  iapply (load_step (F := F) c (mr := (Memref.whole cc0_scratch1 : Memref sig .tc .vmem S8x1x128 .i32)) (Finset.subset_univ _)
    (Memref.readAt_unit_zero (Elt F) cc0_scratch1 hz3 _ _)) $$ Hc
  iintro Hc
  iapply Hk
  isplitl [Hc]; · iexact Hc
  iexact Hr

end Cert.KernelIdealRun

end
-- ==== Proof.KernelIdealEnds.lean ====
/-
# Before and after the body

What a device holds when its body starts, dealt to the places it is used at, and put together again at the end.
-/
module

public import proofs.«01_k».proof.Proof.KernelIdealTables

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cl → ℕ)

/-! ## A sum over a device's semaphores -/

section lists
omit [FloatOps F]
theorem mono_of {I : Type} {S : Finset I} {Φ Ψ : I → sProp 𝕄} (h : ∀ i ∈ S, Φ i ⊢ Ψ i) : bigSep S Φ ⊢ bigSep S Ψ := bigSep_mono h
theorem opt {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map ⟨some, Option.some_injective I⟩ from by
    ext x; cases x <;> simp, bigSep_map]; rfl
theorem two (Φ : Bool → sProp 𝕄) : bigSep Finset.univ Φ = iprop(Φ false ∗ Φ true) := by
  rw [bigSep_eq_bigSepL_of_eq ([false, true] : List Bool) (by decide) (by decide)]; rfl
/-- A sum over a device's semaphores, kind by kind. -/
theorem kinds (Φ : Cl → sProp 𝕄) :
    bigSep Finset.univ Φ = iprop(Φ none ∗ Φ (some none)
      ∗ ((bigSep Finset.univ fun j : Fin 8 => Φ (some (some (false, false, j)))) ∗ (bigSep Finset.univ fun j : Fin 8 => Φ (some (some (false, true, j)))))
      ∗ ((bigSep Finset.univ fun j : Fin 8 => Φ (some (some (true, false, j)))) ∗ (bigSep Finset.univ fun j : Fin 8 => Φ (some (some (true, true, j)))))) := by
  rw [opt, opt, bigSep_univ_prod, two, bigSep_univ_prod, bigSep_univ_prod, two, two]
end lists

/-! ## The start -/

/-- The rights to pay what device `c` pays the device `k` places on, and its own send semaphores. -/
def duties (c : Dev nD) (k : Fin 8) : sProp 𝕄 :=
  iprop(dutyTok ER (barCell (nxt k c)) 0 c
    ∗ (dutyTok ER (arrCell true false k c) 0 c ∗ dutyTok ER (arrCell true true c (nxt k c)) 0 c)
    ∗ (dutyTok ER (arrCell false false k c) 0 c ∗ dutyTok ER (arrCell false true c (nxt k c)) 0 c))

omit [FloatOps F] in
/-- The two tables by slot: the device's own, and one for each word it sends. -/
theorem deal_tables (c : Dev nD) :
    iprop((∃ f, (((c : Thread nD τ).loc cc0_scratch0) ↦{fullShare} f)) ∗ (∃ f, (((c : Thread nD τ).loc cc0_scratch1) ↦{fullShare} f)))
      ⊢ iprop((∃ f, wPts c c fullShare f) ∗ (∃ f, cPts c c fullShare f) ∗ bigSep (Finset.univ.erase (0 : Fin 8)) fun k => (barPay (nxt k c) c : sProp 𝕄)) := by
  iintro ⟨⟨%f, Hw⟩, %g, Hc⟩
  ihave Hw := (Entails.of_eq ((w_slots c fullShare f).trans ((bigSep_univ_equiv (rot c) _).trans (bigSep_univ_at _ 0)))) $$ Hw
  ihave Hc := (Entails.of_eq ((c_slots c fullShare g).trans ((bigSep_univ_equiv (rot c) _).trans (bigSep_univ_at _ 0)))) $$ Hc
  icases Hw with ⟨Hw0, Hw⟩
  icases Hc with ⟨Hc0, Hc⟩
  isplitl [Hw0]
  · iexists f
    iapply (Entails.of_eq (congrArg (fun j => (wPts c j fullShare f : sProp 𝕄)) (nxt_zero c))); iexact Hw0
  isplitl [Hc0]
  · iexists g
    iapply (Entails.of_eq (congrArg (fun j => (cPts c j fullShare g : sProp 𝕄)) (nxt_zero c))); iexact Hc0
  iapply (show iprop((bigSep (Finset.univ.erase (0 : Fin 8)) fun k => wPts c (rot c k) fullShare f) ∗ bigSep (Finset.univ.erase (0 : Fin 8)) fun k => cPts c (rot c k) fullShare g)
      ⊢ (bigSep (Finset.univ.erase (0 : Fin 8)) fun k => barPay (nxt k c) c : sProp 𝕄) from by
        rw [← bigSep_sep']
        refine mono_of fun k _ => ?_
        unfold barPay
        iintro ⟨Hw, Hc⟩
        isplitl [Hw]
        · iexists f; iexact Hw
        · iexists g; iexact Hc)
  isplitl [Hw]; · iexact Hw
  iexact Hc

/-- The words' share of the rights, and the rest. -/
theorem deal_words (c : Dev nD) :
    iprop((bigSep (Finset.univ.erase (0 : Fin 8)) (duties (F := F) c)) ∗ bigSep (Finset.univ.erase (0 : Fin 8)) fun k => (barPay (nxt k c) c : sProp 𝕄))
      ⊢ iprop((bigSep (Finset.univ.erase (0 : Fin 8)) (sigRes (F := F) c))
        ∗ bigSep (Finset.univ.erase (0 : Fin 8)) fun k => iprop((dutyTok ER (arrCell true false k c) 0 c ∗ dutyTok ER (arrCell true true c (nxt k c)) 0 c)
          ∗ (dutyTok ER (arrCell false false k c) 0 c ∗ dutyTok ER (arrCell false true c (nxt k c)) 0 c) : sProp 𝕄)) := by
  rw [← bigSep_sep', ← bigSep_sep']
  refine mono_of fun k _ => ?_
  unfold duties sigRes
  iintro ⟨⟨Hb, Hr⟩, Hp⟩
  isplitl [Hb Hp]
  · isplitl [Hb]; · iexact Hb
    iexact Hp
  iexact Hr

/-- What the transfers take, once the words have come. -/
theorem deal_sends (c : Dev nD) :
    iprop((bigSep (Finset.univ.erase (0 : Fin 8)) fun k => iprop((dutyTok ER (arrCell true false k c) 0 c ∗ dutyTok ER (arrCell true true c (nxt k c)) 0 c)
          ∗ (dutyTok ER (arrCell false false k c) 0 c ∗ dutyTok ER (arrCell false true c (nxt k c)) 0 c) : sProp 𝕄))
        ∗ (bigSep (Finset.univ.erase (0 : Fin 8)) fun k => barPay c (nxt k c))
        ∗ (bigSep (Finset.univ.erase (0 : Fin 8)) (cTok m ρ c)) ∗ bigSep (Finset.univ.erase (0 : Fin 8)) (sTok m ρ c))
      ⊢ iprop((bigSep (Finset.univ.erase (0 : Fin 8)) (cRes m ρ c)) ∗ bigSep (Finset.univ.erase (0 : Fin 8)) (wRes m ρ c)) := by
  rw [← bigSep_sep', ← bigSep_sep', ← bigSep_sep', ← bigSep_sep']
  refine mono_of fun k _ => ?_
  unfold barPay cRes wRes
  iintro ⟨⟨⟨Hc1, Hc2⟩, Hw1, Hw2⟩, ⟨Hw3, Hc3⟩, Hc4, Hw4⟩
  isplitl [Hc1 Hc2 Hc3 Hc4]
  · isplitl [Hc1]; · iexact Hc1
    isplitl [Hc2]; · iexact Hc2
    isplitl [Hc4]; · iexact Hc4
    iexact Hc3
  · isplitl [Hw1]; · iexact Hw1
    isplitl [Hw2]; · iexact Hw2
    isplitl [Hw4]; · iexact Hw4
    iexact Hw3

/-! ## The end -/

/-- How far device `c` has come on its semaphore `k` at the end. -/
def rEnd (c : Dev nD) : Cl → ℕ
  | none => 1
  | some none => 1
  | some (some (_, false, k)) => if k = 0 then 0 else 1
  | some (some (_, true, j)) => if j = c then 0 else 1

theorem w_end (c : Dev nD) :
    iprop(wPts c c fullShare (GW m ρ) ∗ bigSep Finset.univ (wGot m ρ c))
      ⊢ iprop((((c : Thread nD τ).loc cc0_scratch0) ↦{fullShare} GW m ρ)
        ∗ bigSep Finset.univ fun j : Fin 8 => (atPos ER (arrCell false true j c) (if j = c then 0 else 1) ∅ 0 : sProp 𝕄)) := by
  rw [at_only c (fun j => wPts c j fullShare (GW m ρ)), ← bigSep_sep', w_slots, ← bigSep_sep']
  refine mono_of fun j _ => ?_
  unfold wGot
  by_cases hj : j = c
  · simp only [if_pos hj]
    iintro ⟨H, Ha, -⟩
    isplitl [H]; · iexact H
    iexact Ha
  · simp only [if_neg hj]
    iintro ⟨-, Ha, H⟩
    isplitl [H]; · iexact H
    iexact Ha

theorem c_end (c : Dev nD) :
    iprop(cPts c c qKeep (GC m ρ) ∗ (bigSep Finset.univ (cTok m ρ c)) ∗ bigSep Finset.univ (cGot m ρ c))
      ⊢ iprop((((c : Thread nD τ).loc cc0_scratch1) ↦{fullShare} GC m ρ)
        ∗ bigSep Finset.univ fun j : Fin 8 => (atPos ER (arrCell true true j c) (if j = c then 0 else 1) ∅ 0 : sProp 𝕄)) := by
  have h : iprop(cPts c c qKeep (GC m ρ) ∗ bigSep Finset.univ (cTok m ρ c)) = (cPts c c fullShare (GC m ρ) : sProp 𝕄) := (c_shares c c (GC m ρ)).symm
  refine (show _ ⊢ iprop((cPts c c qKeep (GC m ρ) ∗ bigSep Finset.univ (cTok m ρ c)) ∗ bigSep Finset.univ (cGot m ρ c)) from by
    iintro ⟨H1, H2, H3⟩
    isplitl [H1 H2]
    · isplitl [H1]; · iexact H1
      iexact H2
    iexact H3).trans ?_
  rw [h, at_only c (fun j => cPts c j fullShare (GC m ρ)), ← bigSep_sep', c_slots, ← bigSep_sep']
  refine mono_of fun j _ => ?_
  unfold cGot
  by_cases hj : j = c
  · simp only [if_pos hj]
    iintro ⟨H, Ha, -⟩
    isplitl [H]; · iexact H
    iexact Ha
  · simp only [if_neg hj]
    iintro ⟨-, Ha, H⟩
    isplitl [H]; · iexact H
    iexact Ha

/-- A semaphore nothing more is due on closes at zero. -/
theorem close (c : Dev nD) (k : Cl) :
    iprop(ctx m ρ K ∗ atPos ER (kcell (c, k)) (rEnd c k) ∅ 0) ⊢ |={Set.univ}=> (semVal (kcell (c, k)) 0 : sProp 𝕄) := by
  have hd : ∀ r, rEnd c k ≤ r → (sched (F := F) m ρ).duties (kcell (c, k)) r = ∅ := by
    rcases k with _ | _ | ⟨t, _ | _, j⟩
    · exact duties_later m ρ _
    · exact duties_later m ρ _
    · by_cases hj : j = 0
      · rw [show rEnd c (some (some (t, false, j))) = 0 from if_pos hj]
        exact duties_unused m ρ c _ (by subst hj; cases t <;> rfl)
      · rw [show rEnd c (some (some (t, false, j))) = 1 from if_neg hj]
        exact duties_later m ρ _
    · by_cases hj : j = c
      · rw [show rEnd c (some (some (t, true, j))) = 0 from if_pos hj]
        exact duties_unused m ρ c _ (by subst hj; cases t <;> exact if_pos rfl)
      · rw [show rEnd c (some (some (t, true, j))) = 1 from if_neg hj]
        exact duties_later m ρ _
  iintro ⟨#Hctx, Hat⟩
  iapply (Rounds.cell_close ER (sched m ρ) (Set.mem_univ (K (c, k))) (fun h => h) hd) $$ [Hat]
  isplitr; · iapply (ctx_inv m ρ K (c, k)); iexact Hctx
  iexact Hat

theorem close_all (c : Dev nD) :
    iprop(ctx m ρ K ∗ bigSep Finset.univ fun k : Cl => atPos ER (kcell (c, k)) (rEnd c k) ∅ 0)
      ⊢ |={Set.univ}=> bigSep Finset.univ fun k : Cl => (semVal (kcell (c, k)) 0 : sProp 𝕄) :=
  ((sep_mono_left (BI.bigSep_of_persistent Finset.univ (ctx m ρ K))).trans (by rw [← bigSep_sep']; exact bigSep_mono fun k _ => close m ρ K c k)).trans (bigSep_fupd _ _)

end Cert.KernelIdealRun

end
-- ==== Proof.KernelIdealParts.lean ====
/-
# The kernel's body, part by part

For each printed part, what it takes and what it leaves, at a symbolic device `c`.
-/
module

public import proofs.«01_k».proof.Proof.KernelIdealMoves

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own slot of the count table -/

theorem c_load_set {c : Dev nD} {off : Fin 3 → ℕ} (h : off = ![c.val, 0, 0]) (inb : ∀ a, off a + S1x1x128.size a ≤ S8x1x128.size a) :
    (Memref.whole cc0_scratch1 : Memref sig .tc .vmem S8x1x128 .i32).view.setOn (Rect.unit (s := S8x1x128) off S1x1x128.size inb).toLoadRect.set ⊆ cSet c := by
  subst h
  intro i hi
  obtain ⟨y, hy, he⟩ := Finset.mem_map.mp hi
  have : y = i := he
  subst this
  rw [mem_cSet]
  have h0 := (Rect.mem_set_unit.mp hy) 0
  change c.val ≤ (y 0).val ∧ (y 0).val < c.val + 1 at h0
  omega

theorem c_store_set {c : Dev nD} {off : Fin 3 → ℕ} (h : off = ![c.val, 0, 0]) (inb : ∀ a, off a + S1x1x128.size a ≤ S8x1x128.size a) :
    ((Memref.whole cc0_scratch1 : Memref sig .tc .vmem S8x1x128 .i32).access (Rect.unit (s := S8x1x128) off S1x1x128.size inb)).setOn Finset.univ ⊆ cSet c := by
  subst h
  rw [View.setOn_univ]
  exact subset_of_eq (acc_set c)

theorem c_store (c : Dev nD) {off : Fin 3 → ℕ} (h : off = ![c.val, 0, 0]) (inb : ∀ a, off a + S1x1x128.size a ≤ S8x1x128.size a)
    (f : (cc0_scratch1 : Ref sig .tc).ty.Contents (Elt F)) : ∀ i ∈ cSet c,
    ((Memref.whole cc0_scratch1 : Memref sig .tc .vmem S8x1x128 .i32).access (Rect.unit (s := S8x1x128) off S1x1x128.size inb)).write (Elt F) f
      (k0_pay2 (F := F) (rstg m ρ c)) Finset.univ i = GC m ρ i := by
  subst h
  exact store_c m ρ c f

/-- The device's counts go into its own slot of the table. -/
theorem storeC_step {α : Type} {Q : α → sProp 𝕄} (c : Dev nD) {off : Fin 3 → ℕ} (h : off = ![c.val, 0, 0])
    {inb : ∀ a, off a + S1x1x128.size a ≤ S8x1x128.size a}
    {hx : ((Memref.whole cc0_scratch1 : Memref sig .tc .vmem S8x1x128 .i32).access (Rect.unit (s := S8x1x128) off S1x1x128.size inb)).Stores Finset.univ}
    {hm : (Finset.univ : Finset (Rect.unit (s := S8x1x128) off S1x1x128.size inb).shape.Idx) = Finset.univ ∨ ∀ (a : Fin S8x1x128.rank), (Rect.unit (s := S8x1x128) off S1x1x128.size inb).stride a = 1}
    {k : PUnit → Prog (TpuEff nD τ sig (Elt F) Λ₀ .tc) α} (f : (cc0_scratch1 : Ref sig .tc).ty.Contents (Elt F)) :
    (cPts c c fullShare f : sProp 𝕄)
      ⊢ iprop((cPts c c fullShare (GC m ρ) -∗ WP c (k ⟨⟩) Q)
        -∗ WP c (Prog.lift (.store (Memref.whole cc0_scratch1 : Memref sig .tc .vmem S8x1x128 .i32) (Rect.unit (s := S8x1x128) off S1x1x128.size inb)
          (k0_pay2 (F := F) (rstg m ρ c)) Finset.univ hx hm) >>= k) Q) := by
  rw [cPts_eq, cPts_eq]
  exact store_step (F := F) c (mr := (Memref.whole cc0_scratch1 : Memref sig .tc .vmem S8x1x128 .i32)) (r := Rect.unit (s := S8x1x128) off S1x1x128.size inb)
    (S := cSet c) (f := f) (g := GC m ρ) (c_store_set h inb) (c_store m ρ c h inb f)

/-- A load from it leaves it. -/
theorem loadC_step {α : Type} {Q : α → sProp 𝕄} (c : Dev nD) {off : Fin 3 → ℕ} (h : off = ![c.val, 0, 0])
    {inb : ∀ a, off a + S1x1x128.size a ≤ S8x1x128.size a}
    {hl : (Memref.whole cc0_scratch1 : Memref sig .tc .vmem S8x1x128 .i32).view.LoadsAt (Rect.unit (s := S8x1x128) off S1x1x128.size inb).toLoadRect}
    {k : _ → Prog (TpuEff nD τ sig (Elt F) Λ₀ .tc) α} (k' : Prog (TpuEff nD τ sig (Elt F) Λ₀ .tc) α) (hk : ∀ x, k x = k')
    (f : (cc0_scratch1 : Ref sig .tc).ty.Contents (Elt F)) :
    (cPts c c fullShare f : sProp 𝕄)
      ⊢ iprop((cPts c c fullShare f -∗ WP c k' Q)
        -∗ WP c (Prog.lift (.load (Memref.whole cc0_scratch1 : Memref sig .tc .vmem S8x1x128 .i32) (Rect.unit (s := S8x1x128) off S1x1x128.size inb).toLoadRect hl) >>= k) Q) := by
  rw [cPts_eq]
  have := load_step (F := F) (Q := Q) (k := k) c (mr := (Memref.whole cc0_scratch1 : Memref sig .tc .vmem S8x1x128 .i32))
    (r := (Rect.unit (s := S8x1x128) off S1x1x128.size inb).toLoadRect) (hl := hl) (S := cSet c) (q := fullShare) (f := f) (c_load_set h inb) rfl
  rw [hk] at this
  exact this

variable (K : Dev nD × Cl → ℕ)

/-- The transfer of the counts to the device `k` places on. -/
theorem csend {α : Type} {Q : α → sProp 𝕄} {k' : PUnit → Prog (TpuEff nD τ sig (Elt F) Λ₀ .tc) α}
    (c n : Dev nD) (k : Fin 8) (hk : k ≠ 0) (hn : n = nxt k c) (O : CellTallies nD τ sig Unit)
    {src dst : Memref sig .tc .vmem S1x128 .i32} (hsrc : src = cM c) (hdst : dst = cM c)
    {sS sem : DmaSem sig} (hsS : sS = smS (true, false, k)) (hsem : sem = smS (true, true, c))
    {hsc : (dst : Memref sig (Dev.tc n : Thread nD τ).2.kind .vmem S1x128 .i32).view.ref.isScScratch = false}
    {h1 : src.view.WordExact} {h2 : dst.view.WordExact}
    {h3 : DmaTarget.Typed .vmem (.dma sem) (DmaTarget.remote (p := .tc) (Dev.tc n : Thread nD τ) (dst : Memref sig .tc .vmem S1x128 .i32) (.dma sS) hsc)} :
    iprop(ctx m ρ K ∗ ow c (O + tallyAt (arrCell true true c (nxt k c)) () Nc) ∗ cRes m ρ c k)
      ⊢ iprop(((ow c O ∗ cOut c k) -∗ WP c (k' ⟨⟩) Q)
        -∗ WP c (Prog.lift (.enqueueDma src (DmaTarget.remote (p := .tc) (Dev.tc n : Thread nD τ) dst (.dma sS) hsc) (.dma sem) h1 h2 h3) >>= k') Q) :=
  csend_step m ρ K c n k hk hn O hsrc hdst hsS hsem

/-- The transfer of the matrices to the device `k` places on. -/
theorem wsend {α : Type} {Q : α → sProp 𝕄} {k' : PUnit → Prog (TpuEff nD τ sig (Elt F) Λ₀ .tc) α}
    (c n : Dev nD) (k : Fin 8) (hk : k ≠ 0) (hn : n = nxt k c) (O : CellTallies nD τ sig Unit)
    {dst : Memref sig .tc .vmem S2x128x256 .bf16} (hdst : dst = wM c)
    {sS sem : DmaSem sig} (hsS : sS = smS (false, false, k)) (hsem : sem = smS (false, true, c))
    {hsc : (dst : Memref sig (Dev.tc n : Thread nD τ).2.kind .vmem S2x128x256 .bf16).view.ref.isScScratch = false}
    {h1 : wStage.view.WordExact} {h2 : dst.view.WordExact}
    {h3 : DmaTarget.Typed .vmem (.dma sem) (DmaTarget.remote (p := .tc) (Dev.tc n : Thread nD τ) (dst : Memref sig .tc .vmem S2x128x256 .bf16) (.dma sS) hsc)} :
    iprop(ctx m ρ K ∗ ow c (O + tallyAt (arrCell false true c (nxt k c)) () Nw) ∗ wRes m ρ c k)
      ⊢ iprop(((ow c O ∗ wOut c k) -∗ WP c (k' ⟨⟩) Q)
        -∗ WP c (Prog.lift (.enqueueDma wStage (DmaTarget.remote (p := .tc) (Dev.tc n : Thread nD τ) dst (.dma sS) hsc) (.dma sem) h1 h2 h3) >>= k') Q) :=
  wsend_step m ρ K c n k hk hn O hdst hsS hsem

/-! ## The words, the device's own counts, the local copy -/

theorem part1 (c : Dev nD) {Q : _ → sProp 𝕄} :
    iprop(ctx m ρ K ∗ ow c (O₀ c) ∗ sigRes c 1 ∗ sigRes c 2 ∗ sigRes c 3 ∗ sigRes c 4 ∗ sigRes c 5)
      ⊢ iprop((ow c (owB c [6, 7]) -∗ Q ⟨c, myId c, SemArray.scalar (sig.barrier 0 rfl), Scalar.addi (myId c) 6#32, 8#32⟩)
        -∗ WP c (k0_part1 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6) Q) := by
  rw [k0_part1_eq_skeleton]; unfold k0_part1_skel sigRes
  rw [dev_step]
  iintro ⟨#Hctx, HO, ⟨Ht1, Hp1⟩, ⟨Ht2, Hp2⟩, ⟨Ht3, Hp3⟩, ⟨Ht4, Hp4⟩, ⟨Ht5, Hp5⟩⟩ Hk
  iapply (signal_step m ρ K c _ 1 (by decide) (dev_of (k0_dev1_eq c) _) (owB c [2, 3, 4, 5, 6, 7])) $$ [HO Ht1 Hp1]
  · isplitr; · iexact Hctx
    isplitl [HO]; · iexact HO
    isplitl [Ht1]; · iexact Ht1
    iexact Hp1
  iintro HO
  iapply (signal_step m ρ K c _ 2 (by decide) (dev_of (k0_dev2_eq c) _) (owB c [3, 4, 5, 6, 7])) $$ [HO Ht2 Hp2]
  · isplitr; · iexact Hctx
    isplitl [HO]; · iexact HO
    isplitl [Ht2]; · iexact Ht2
    iexact Hp2
  iintro HO
  iapply (signal_step m ρ K c _ 3 (by decide) (dev_of (k0_dev3_eq c) _) (owB c [4, 5, 6, 7])) $$ [HO Ht3 Hp3]
  · isplitr; · iexact Hctx
    isplitl [HO]; · iexact HO
    isplitl [Ht3]; · iexact Ht3
    iexact Hp3
  iintro HO
  iapply (signal_step m ρ K c _ 4 (by decide) (dev_of (k0_dev4_eq c) _) (owB c [5, 6, 7])) $$ [HO Ht4 Hp4]
  · isplitr; · iexact Hctx
    isplitl [HO]; · iexact HO
    isplitl [Ht4]; · iexact Ht4
    iexact Hp4
  iintro HO
  iapply (signal_step m ρ K c _ 5 (by decide) (dev_of (k0_dev5_eq c) _) (owB c [6, 7])) $$ [HO Ht5 Hp5]
  · isplitr; · iexact Hctx
    isplitl [HO]; · iexact HO
    isplitl [Ht5]; · iexact Ht5
    iexact Hp5
  iintro HO
  iapply (ret_step c)
  iapply Hk; iexact HO

theorem part2 (c : Dev nD) (v24 c8 : BitVec 32) {Q : _ → sProp 𝕄} :
    iprop(ctx m ρ K ∗ ow c (owB c [6, 7]) ∗ sigRes c 6 ∗ sigRes c 7 ∗ cred (tallyAt (barCell c) () 7) ∗ atPos ER (barCell c) 0 ∅ 0
        ∗ (((c : Thread nD τ).loc cc0_stg1_0) ↦{fullShare} rstg m ρ c) ∗ (∃ f, cPts c c fullShare f) ∗ (∃ f, wPts c c fullShare f)
        ∗ sTok m ρ c 0 ∗ dutyTok ER (copyCell c) 0 c)
      ⊢ iprop(((ow c (owS c places) ∗ atPos ER (barCell c) 1 ∅ 0 ∗ (bigSep (Finset.univ.erase (0 : Fin 8)) fun k => barPay c (nxt k c))
          ∗ (((c : Thread nD τ).loc cc0_stg1_0) ↦{fullShare} rstg m ρ c) ∗ cPts c c fullShare (GC m ρ) ∗ cred (tallyAt (copyCell c) () Nw))
          -∗ Q ⟨k0_pay1 (F := F) (rstg m ρ c), Scalar.remsi (Scalar.addi (myId c) 1#32) 8#32⟩)
        -∗ WP c (k0_part2 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c (myId c) (SemArray.scalar (sig.barrier 0 rfl)) v24 c8) Q) := by
  rw [k0_part2_eq_skeleton]; unfold k0_part2_skel sigRes
  iintro ⟨#Hctx, HO, ⟨Ht6, Hp6⟩, ⟨Ht7, Hp7⟩, Hcr, Hat, Hr, ⟨%fc, Hc⟩, Hw, Hs, Hd⟩ Hk
  iapply (signal_step m ρ K c _ 6 (by decide) (dev_of (k0_dev6_eq c) _) (owB c [7])) $$ [HO Ht6 Hp6]
  · isplitr; · iexact Hctx
    isplitl [HO]; · iexact HO
    isplitl [Ht6]; · iexact Ht6
    iexact Hp6
  iintro HO
  iapply (signal_step m ρ K c _ 7 (by decide) (dev_of (k0_dev7_eq c) _) (owB c [])) $$ [HO Ht7 Hp7]
  · isplitr; · iexact Hctx
    isplitl [HO]; · iexact HO
    isplitl [Ht7]; · iexact Ht7
    iexact Hp7
  iintro HO
  iapply (barrier_step m ρ K c (owB c []) rfl) $$ [HO Hcr Hat]
  · isplitr; · iexact Hctx
    isplitl [HO]; · iexact HO
    isplitl [Hcr]; · iexact Hcr
    iexact Hat
  iintro ⟨HO, Hat, Hbar⟩
  iapply (load_step (F := F) c (mr := (Memref.whole cc0_stg1_0 : Memref sig .tc .vmem S256x1 .i32)) (Finset.subset_univ _)
    (Memref.readAt_unit_zero (Elt F) cc0_stg1_0 hz2 _ _)) $$ Hr
  iintro Hr
  iapply (loadC_step (F := F) c (k0_off1_eq c) _ (fun _ => rfl) fc) $$ Hc
  iintro Hc
  iapply (storeC_step (F := F) m ρ c (k0_off1_eq c) fc) $$ Hc
  iintro Hc
  iapply (copy_step m ρ K c (wM_of (k0_off2_eq c) _) sem_copy) $$ [Hs Hw Hd]
  · isplitr; · iexact Hctx
    isplitl [Hs]; · iexact Hs
    isplitl [Hw]; · iexact Hw
    iexact Hd
  iintro Hcc
  iapply (ret_step c)
  iapply Hk
  isplitl [HO]; · iexact HO
  isplitl [Hat]; · iexact Hat
  isplitl [Hbar]; · iexact Hbar
  isplitl [Hr]; · iexact Hr
  isplitl [Hc]; · iexact Hc
  iexact Hcc

/-! ## The transfers -/

theorem part3 (c : Dev nD) (v2 : BitVec 32) (v48 : BitVec 32) {Q : _ → sProp 𝕄} :
    iprop(ctx m ρ K ∗ ow c (owS c [1, 2, 3, 4, 5, 6, 7]) ∗ cRes m ρ c 1 ∗ wRes m ρ c 1 ∗ cRes m ρ c 2 ∗ wRes m ρ c 2)
      ⊢ iprop(((ow c (owS c [3, 4, 5, 6, 7]) ∗ cOut c 1 ∗ wOut c 1 ∗ cOut c 2 ∗ wOut c 2) -∗ Q 3#32)
        -∗ WP c (k0_part3 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c v2 v48) Q) := by
  rw [k0_part3_eq_skeleton]; unfold k0_part3_skel
  iintro ⟨#Hctx, HO, Hc1, Hw1, Hc2, Hw2⟩ Hk
  iapply (csend m ρ K c _ 1 (by decide) (dev_of (k0_dev8_eq c) _) (owS c [2, 3, 4, 5, 6, 7] + tallyAt (arrCell false true c (nxt 1 c)) () Nw) (cM_of (k0_off4_eq c) _)
    (cM_of (k0_off4_eq c) _) (sem_cs (j := 1) rfl _) (sem_cr (k0_off3_eq c) _)) $$ [HO Hc1]
  · isplitr; · iexact Hctx
    isplitl [HO]; · iexact HO
    iexact Hc1
  iintro ⟨HO, Hc1⟩
  iapply (wsend m ρ K c _ 1 (by decide) (dev_of (k0_dev9_eq c) _) (owS c [2, 3, 4, 5, 6, 7]) (wM_of (k0_off2_eq c) _)
    (sem_ws (j := 1) rfl _) (sem_wr (k0_off3_eq c) _)) $$ [HO Hw1]
  · isplitr; · iexact Hctx
    isplitl [HO]; · iexact HO
    iexact Hw1
  iintro ⟨HO, Hw1⟩
  iapply (csend m ρ K c _ 2 (by decide) (dev_of (k0_dev10_eq c) _) (owS c [3, 4, 5, 6, 7] + tallyAt (arrCell false true c (nxt 2 c)) () Nw) (cM_of (k0_off4_eq c) _)
    (cM_of (k0_off4_eq c) _) (sem_cs (j := 2) rfl _) (sem_cr (k0_off3_eq c) _)) $$ [HO Hc2]
  · isplitr; · iexact Hctx
    isplitl [HO]; · iexact HO
    iexact Hc2
  iintro ⟨HO, Hc2⟩
  iapply (wsend m ρ K c _ 2 (by decide) (dev_of (k0_dev11_eq c) _) (owS c [3, 4, 5, 6, 7]) (wM_of (k0_off2_eq c) _)
    (sem_ws (j := 2) rfl _) (sem_wr (k0_off3_eq c) _)) $$ [HO Hw2]
  · isplitr; · iexact Hctx
    isplitl [HO]; · iexact HO
    iexact Hw2
  iintro ⟨HO, Hw2⟩
  iapply (ret_step c)
  iapply Hk
  isplitl [HO]; · iexact HO
  isplitl [Hc1]; · iexact Hc1
  isplitl [Hw1]; · iexact Hw1
  isplitl [Hc2]; · iexact Hc2
  iexact Hw2

theorem part4 (c : Dev nD) (v2 : BitVec 32) (c3 : BitVec 32) {Q : _ → sProp 𝕄} :
    iprop(ctx m ρ K ∗ ow c (owS c [3, 4, 5, 6, 7]) ∗ cRes m ρ c 3 ∗ wRes m ρ c 3 ∗ cRes m ρ c 4)
      ⊢ iprop(((ow c (owS c [5, 6, 7] + tallyAt (arrCell false true c (nxt 4 c)) () Nw) ∗ cOut c 3 ∗ wOut c 3 ∗ cOut c 4) -∗ Q ⟨Scalar.remsi (Scalar.addi v2 4#32) 8#32, 1#32⟩)
        -∗ WP c (k0_part4 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c v2 c3) Q) := by
  rw [k0_part4_eq_skeleton]; unfold k0_part4_skel
  iintro ⟨#Hctx, HO, Hc3, Hw3, Hc4⟩ Hk
  iapply (csend m ρ K c _ 3 (by decide) (dev_of (k0_dev12_eq c) _) (owS c [4, 5, 6, 7] + tallyAt (arrCell false true c (nxt 3 c)) () Nw) (cM_of (k0_off4_eq c) _)
    (cM_of (k0_off4_eq c) _) (sem_cs (j := 3) rfl _) (sem_cr (k0_off3_eq c) _)) $$ [HO Hc3]
  · isplitr; · iexact Hctx
    isplitl [HO]; · iexact HO
    iexact Hc3
  iintro ⟨HO, Hc3⟩
  iapply (wsend m ρ K c _ 3 (by decide) (dev_of (k0_dev13_eq c) _) (owS c [4, 5, 6, 7]) (wM_of (k0_off2_eq c) _)
    (sem_ws (j := 3) rfl _) (sem_wr (k0_off3_eq c) _)) $$ [HO Hw3]
  · isplitr; · iexact Hctx
    isplitl [HO]; · iexact HO
    iexact Hw3
  iintro ⟨HO, Hw3⟩
  iapply (csend m ρ K c _ 4 (by decide) (dev_of (k0_dev14_eq c) _) (owS c [5, 6, 7] + tallyAt (arrCell false true c (nxt 4 c)) () Nw) (cM_of (k0_off4_eq c) _)
    (cM_of (k0_off4_eq c) _) (sem_cs (j := 4) rfl _) (sem_cr (k0_off3_eq c) _)) $$ [HO Hc4]
  · isplitr; · iexact Hctx
    isplitl [HO]; · iexact HO
    iexact Hc4
  iintro ⟨HO, Hc4⟩
  iapply (ret_step c)
  iapply Hk
  isplitl [HO]; · iexact HO
  isplitl [Hc3]; · iexact Hc3
  isplitl [Hw3]; · iexact Hw3
  iexact Hc4

theorem part5 (c : Dev nD) (v2 : BitVec 32) (v108 c1 : BitVec 32) {Q : _ → sProp 𝕄} :
    iprop(ctx m ρ K ∗ ow c (owS c [5, 6, 7] + tallyAt (arrCell false true c (nxt 4 c)) () Nw) ∗ wRes m ρ c 4 ∗ cRes m ρ c 5 ∗ wRes m ρ c 5)
      ⊢ iprop(((ow c (owS c [6, 7]) ∗ wOut c 4 ∗ cOut c 5 ∗ wOut c 5) -∗ Q (Scalar.remsi (Scalar.addi v2 6#32) 8#32))
        -∗ WP c (k0_part5 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c v2 v108 c1) Q) := by
  rw [k0_part5_eq_skeleton]; unfold k0_part5_skel
  iintro ⟨#Hctx, HO, Hw4, Hc5, Hw5⟩ Hk
  iapply (wsend m ρ K c _ 4 (by decide) (dev_of (k0_dev15_eq c) _) (owS c [5, 6, 7]) (wM_of (k0_off2_eq c) _)
    (sem_ws (j := 4) rfl _) (sem_wr (k0_off3_eq c) _)) $$ [HO Hw4]
  · isplitr; · iexact Hctx
    isplitl [HO]; · iexact HO
    iexact Hw4
  iintro ⟨HO, Hw4⟩
  iapply (csend m ρ K c _ 5 (by decide) (dev_of (k0_dev16_eq c) _) (owS c [6, 7] + tallyAt (arrCell false true c (nxt 5 c)) () Nw) (cM_of (k0_off4_eq c) _)
    (cM_of (k0_off4_eq c) _) (sem_cs (j := 5) rfl _) (sem_cr (k0_off3_eq c) _)) $$ [HO Hc5]
  · isplitr; · iexact Hctx
    isplitl [HO]; · iexact HO
    iexact Hc5
  iintro ⟨HO, Hc5⟩
  iapply (wsend m ρ K c _ 5 (by decide) (dev_of (k0_dev17_eq c) _) (owS c [6, 7]) (wM_of (k0_off2_eq c) _)
    (sem_ws (j := 5) rfl _) (sem_wr (k0_off3_eq c) _)) $$ [HO Hw5]
  · isplitr; · iexact Hctx
    isplitl [HO]; · iexact HO
    iexact Hw5
  iintro ⟨HO, Hw5⟩
  iapply (ret_step c)
  iapply Hk
  isplitl [HO]; · iexact HO
  isplitl [Hw4]; · iexact Hw4
  isplitl [Hc5]; · iexact Hc5
  iexact Hw5

theorem part6 (c : Dev nD) (v2 : BitVec 32) (v148 : BitVec 32) {Q : _ → sProp 𝕄} :
    iprop(ctx m ρ K ∗ ow c (owS c [6, 7]) ∗ cRes m ρ c 6 ∗ wRes m ρ c 6 ∗ cRes m ρ c 7)
      ⊢ iprop(((ow c (owS c [] + tallyAt (arrCell false true c (nxt 7 c)) () Nw) ∗ cOut c 6 ∗ wOut c 6 ∗ cOut c 7) -∗ Q ⟨⟩)
        -∗ WP c (k0_part6 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c v2 v148) Q) := by
  rw [k0_part6_eq_skeleton]; unfold k0_part6_skel
  iintro ⟨#Hctx, HO, Hc6, Hw6, Hc7⟩ Hk
  iapply (csend m ρ K c _ 6 (by decide) (dev_of (k0_dev18_eq c) _) (owS c [7] + tallyAt (arrCell false true c (nxt 6 c)) () Nw) (cM_of (k0_off4_eq c) _)
    (cM_of (k0_off4_eq c) _) (sem_cs (j := 6) rfl _) (sem_cr (k0_off3_eq c) _)) $$ [HO Hc6]
  · isplitr; · iexact Hctx
    isplitl [HO]; · iexact HO
    iexact Hc6
  iintro ⟨HO, Hc6⟩
  iapply (wsend m ρ K c _ 6 (by decide) (dev_of (k0_dev19_eq c) _) (owS c [7]) (wM_of (k0_off2_eq c) _)
    (sem_ws (j := 6) rfl _) (sem_wr (k0_off3_eq c) _)) $$ [HO Hw6]
  · isplitr; · iexact Hctx
    isplitl [HO]; · iexact HO
    iexact Hw6
  iintro ⟨HO, Hw6⟩
  iapply (csend m ρ K c _ 7 (by decide) (dev_of (k0_dev20_eq c) _) (owS c [] + tallyAt (arrCell false true c (nxt 7 c)) () Nw) (cM_of (k0_off4_eq c) _)
    (cM_of (k0_off4_eq c) _) (sem_cs (j := 7) rfl _) (sem_cr (k0_off3_eq c) _)) $$ [HO Hc7]
  · isplitr; · iexact Hctx
    isplitl [HO]; · iexact HO
    iexact Hc7
  iintro ⟨HO, Hc7⟩
  iapply (ret_step c)
  iapply Hk
  isplitl [HO]; · iexact HO
  isplitl [Hc6]; · iexact Hc6
  isplitl [Hw6]; · iexact Hw6
  iexact Hc7

end Cert.KernelIdealRun

end
-- ==== Proof.KernelIdealArrivals.lean ====
/-
# The kernel's body: what arrives, and the sources given back

The parts that wait, each wait guarded by whether the slot is the device's own.
-/
module

public import proofs.«01_k».proof.Proof.KernelIdealTables
public import proofs.«01_k».proof.Proof.KernelIdealParts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a transfer into a slot of the weight table signals. -/
theorem wCredit (c : Dev nD) {dst : Memref sig .tc .vmem S2x128x256 .bf16} (hdst : dst = wM c) : dst.view.dmaCredit = Nw := by
  rw [hdst]; exact Nw_eq c

/-- The store of the whole output block. -/
theorem storeO_step {α : Type} {Q : α → sProp 𝕄} (c : Dev nD) {inb : ∀ a, (![0, 0] : Fin 2 → ℕ) a + S256x256.size a ≤ S256x256.size a}
    {w : Vec F S256x256 .f32}
    {hx : ((Memref.whole cc0_stg3_0 : Memref sig .tc .vmem S256x256 .f32).access (Rect.unit (s := S256x256) ![0, 0] S256x256.size inb)).Stores Finset.univ}
    {hm : (Finset.univ : Finset (Rect.unit (s := S256x256) ![0, 0] S256x256.size inb).shape.Idx) = Finset.univ ∨ ∀ (a : Fin S256x256.rank), (Rect.unit (s := S256x256) ![0, 0] S256x256.size inb).stride a = 1}
    {k : PUnit → Prog (TpuEff nD τ sig (Elt F) Λ₀ .tc) α} (f : (cc0_stg3_0 : Ref sig .tc).ty.Contents (Elt F)) :
    (((c : Thread nD τ).loc cc0_stg3_0) ↦{fullShare} f : sProp 𝕄)
      ⊢ iprop(((((c : Thread nD τ).loc cc0_stg3_0) ↦{fullShare} w) -∗ WP c (k ⟨⟩) Q)
        -∗ WP c (Prog.lift (.store (Memref.whole cc0_stg3_0 : Memref sig .tc .vmem S256x256 .f32) (Rect.unit (s := S256x256) ![0, 0] S256x256.size inb)
          w Finset.univ hx hm) >>= k) Q) :=
  store_step (F := F) c (mr := (Memref.whole cc0_stg3_0 : Memref sig .tc .vmem S256x256 .f32)) (r := Rect.unit (s := S256x256) ![0, 0] S256x256.size inb)
    (S := Finset.univ) (f := f) (g := w) (Finset.subset_univ _) (fun i _ => congrFun (Memref.write_access_unit_zero_univ (Elt F) cc0_stg3_0 hz2 _ f w) i)

variable (K : Dev nD × Cl → ℕ)

theorem part7 (c : Dev nD) {Q : _ → sProp 𝕄} :
    iprop(ctx m ρ K ∗ ow c (owS c [] + tallyAt (arrCell false true c (nxt 7 c)) () Nw) ∗ wRes m ρ c 7 ∗ bigSep Finset.univ (cWait c) ∗ cPts c c qKeep (GC m ρ))
      ⊢ iprop(((ow c 0 ∗ wOut c 7 ∗ cPts c c qKeep (GC m ρ) ∗ bigSep Finset.univ (cGot m ρ c)) -∗ Q ⟨k0_pay3 (F := F) (GC m ρ), k0_pay4 (myId c)⟩)
        -∗ WP c (k0_part7 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c (myId c)) Q) := by
  rw [k0_part7_eq_skeleton, eight (cWait c)]; unfold k0_part7_skel
  iintro ⟨#Hctx, HO, Hw7, ⟨H0, H1, H2, H3, H4, H5, H6, H7⟩, Hc⟩ Hk
  iapply (wsend m ρ K c _ 7 (by decide) (dev_of (k0_dev21_eq c) _) (owS c []) (wM_of (k0_off2_eq c) _)
    (sem_ws (j := 7) rfl _) (sem_wr (k0_off3_eq c) _)) $$ [HO Hw7]
  · isplitr; · iexact Hctx
    isplitl [HO]; · iexact HO
    iexact Hw7
  iintro ⟨HO, Hw7⟩
  iapply (cond_c m ρ K c 0 (guard c 0) (sem_cr (j := 0) rfl _) (cM_of (j := 0) rfl _)) $$ [HO H0]
  · isplitr; · iexact Hctx
    isplitl [HO]; · iexact HO
    iexact H0
  iintro ⟨HO, H0⟩
  iapply (cond_c m ρ K c 1 (guard c 1) (sem_cr (j := 1) rfl _) (cM_of (j := 1) rfl _)) $$ [HO H1]
  · isplitr; · iexact Hctx
    isplitl [HO]; · iexact HO
    iexact H1
  iintro ⟨HO, H1⟩
  iapply (cond_c m ρ K c 2 (guard c 2) (sem_cr (j := 2) rfl _) (cM_of (j := 2) rfl _)) $$ [HO H2]
  · isplitr; · iexact Hctx
    isplitl [HO]; · iexact HO
    iexact H2
  iintro ⟨HO, H2⟩
  iapply (cond_c m ρ K c 3 (guard c 3) (sem_cr (j := 3) rfl _) (cM_of (j := 3) rfl _)) $$ [HO H3]
  · isplitr; · iexact Hctx
    isplitl [HO]; · iexact HO
    iexact H3
  iintro ⟨HO, H3⟩
  iapply (cond_c m ρ K c 4 (guard c 4) (sem_cr (j := 4) rfl _) (cM_of (j := 4) rfl _)) $$ [HO H4]
  · isplitr; · iexact Hctx
    isplitl [HO]; · iexact HO
    iexact H4
  iintro ⟨HO, H4⟩
  iapply (cond_c m ρ K c 5 (guard c 5) (sem_cr (j := 5) rfl _) (cM_of (j := 5) rfl _)) $$ [HO H5]
  · isplitr; · iexact Hctx
    isplitl [HO]; · iexact HO
    iexact H5
  iintro ⟨HO, H5⟩
  iapply (cond_c m ρ K c 6 (guard c 6) (sem_cr (j := 6) rfl _) (cM_of (j := 6) rfl _)) $$ [HO H6]
  · isplitr; · iexact Hctx
    isplitl [HO]; · iexact HO
    iexact H6
  iintro ⟨HO, H6⟩
  iapply (cond_c m ρ K c 7 (guard c 7) (sem_cr (j := 7) rfl _) (cM_of (j := 7) rfl _)) $$ [HO H7]
  · isplitr; · iexact Hctx
    isplitl [HO]; · iexact HO
    iexact H7
  iintro ⟨HO, H7⟩
  iapply (loadT_step m ρ c) $$ [Hc H0 H1 H2 H3 H4 H5 H6 H7]
  · isplitl [Hc]; · iexact Hc
    rw [eight (cGot m ρ c)]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨Hc, Hg⟩
  iapply (ret_step c)
  iapply Hk
  isplitl [HO]; · iexact HO
  isplitl [Hw7]; · iexact Hw7
  isplitl [Hc]; · iexact Hc
  iexact Hg

theorem part8 (c : Dev nD) (v37 : IVec S256x128 32) (v212 : IVec S8x128 32) (v215 : IVec S8x128 1) {Q : _ → sProp 𝕄} :
    iprop(ctx m ρ K ∗ ow c 0 ∗ (((c : Thread nD τ).loc cc0_stg0_0) ↦{fullShare} xstg m ρ c) ∗ cred (tallyAt (copyCell c) () Nw) ∗ atPos ER (copyCell c) 0 ∅ 0 ∗ wWait c 0)
      ⊢ iprop(((ow c 0 ∗ (((c : Thread nD τ).loc cc0_stg0_0) ↦{fullShare} xstg m ρ c) ∗ atPos ER (copyCell c) 1 ∅ 0 ∗ sTok m ρ c 0 ∗ wPts c c fullShare (GW m ρ) ∗ wGot m ρ c 0)
          -∗ Q ⟨k0_pay5 (F := F) v37 v212 v215, k0_pay6 (F := F) (xstg m ρ c), k0_pay7 (F := F) v37 v212 v215 (xstg m ρ c) (WL m ρ 0 0), k0_pay8 (F := F) v37 v212 v215 (xstg m ρ c)⟩)
        -∗ WP c (k0_part8 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c (myId c) v37 v212 v215) Q) := by
  rw [k0_part8_eq_skeleton]; unfold k0_part8_skel
  iintro ⟨#Hctx, HO, Hx, Hcr, Hat, H0⟩ Hk
  iapply (load_step (F := F) c (mr := (Memref.whole cc0_stg0_0 : Memref sig .tc .vmem S256x128 .bf16)) (Finset.subset_univ _)
    (Memref.readAt_unit_zero (Elt F) cc0_stg0_0 hz2 _ _)) $$ Hx
  iintro Hx
  iapply (wait_step m ρ K c (some none) c rfl rfl sem_copy (wCredit c (wM_of (k0_off2_eq c) _))) $$ [HO Hcr Hat]
  · isplitr; · iexact Hctx
    isplitl [HO]; · iexact HO
    isplitl [Hcr]; · iexact Hcr
    iexact Hat
  iintro ⟨HO, Hat, Hp⟩
  ihave Hp := (Entails.of_eq (show payOf m ρ c c (some (some none)) = iprop(wPts c c fullShare (GW m ρ) ∗ sTok m ρ c 0) from rfl)) $$ Hp
  icases Hp with ⟨Hw, Hs⟩
  iapply (cond_w m ρ K c 0 (guard c 0) (sem_wr (j := 0) rfl _) (wM_of (j := 0) rfl _)) $$ [HO H0]
  · isplitr; · iexact Hctx
    isplitl [HO]; · iexact HO
    iexact H0
  iintro ⟨HO, H0⟩
  iapply (loadW_step m ρ c 0 0 rfl) $$ [Hw H0]
  · isplitl [Hw]; · iexact Hw
    iexact H0
  iintro ⟨Hw, H0⟩
  iapply (ret_step c)
  iapply Hk
  isplitl [HO]; · iexact HO
  isplitl [Hx]; · iexact Hx
  isplitl [Hat]; · iexact Hat
  isplitl [Hs]; · iexact Hs
  isplitl [Hw]; · iexact Hw
  iexact H0

theorem part9 (c : Dev nD) (v235 v237 : FVec F S256x128 .bf16) (a : FVec F S256x256 .f32) (b : FVec F S256x128 .bf16) {Q : _ → sProp 𝕄} :
    iprop(ctx m ρ K ∗ ow c 0 ∗ wPts c c fullShare (GW m ρ) ∗ wGot m ρ c 0 ∗ wWait c 1 ∗ wWait c 2)
      ⊢ iprop(((ow c 0 ∗ wPts c c fullShare (GW m ρ) ∗ wGot m ρ c 0 ∗ wGot m ρ c 1 ∗ wGot m ρ c 2)
          -∗ Q ⟨k0_pay9 (F := F) v235 v237 a b (WL m ρ 0 1) (WL m ρ 1 0) (WL m ρ 1 1) (WL m ρ 2 0), k0_pay10 (F := F) v235 v237⟩)
        -∗ WP c (k0_part9 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            (myId c) v235 v237 a b) Q) := by
  rw [k0_part9_eq_skeleton]; unfold k0_part9_skel
  iintro ⟨#Hctx, HO, Hw, H0, H1, H2⟩ Hk
  iapply (loadW_step m ρ c 0 1 rfl) $$ [Hw H0]
  · isplitl [Hw]; · iexact Hw
    iexact H0
  iintro ⟨Hw, H0⟩
  iapply (cond_w m ρ K c 1 (guard c 1) (sem_wr (j := 1) rfl _) (wM_of (j := 1) rfl _)) $$ [HO H1]
  · isplitr; · iexact Hctx
    isplitl [HO]; · iexact HO
    iexact H1
  iintro ⟨HO, H1⟩
  iapply (loadW_step m ρ c 1 0 rfl) $$ [Hw H1]
  · isplitl [Hw]; · iexact Hw
    iexact H1
  iintro ⟨Hw, H1⟩
  iapply (loadW_step m ρ c 1 1 rfl) $$ [Hw H1]
  · isplitl [Hw]; · iexact Hw
    iexact H1
  iintro ⟨Hw, H1⟩
  iapply (cond_w m ρ K c 2 (guard c 2) (sem_wr (j := 2) rfl _) (wM_of (j := 2) rfl _)) $$ [HO H2]
  · isplitr; · iexact Hctx
    isplitl [HO]; · iexact HO
    iexact H2
  iintro ⟨HO, H2⟩
  iapply (loadW_step m ρ c 2 0 rfl) $$ [Hw H2]
  · isplitl [Hw]; · iexact Hw
    iexact H2
  iintro ⟨Hw, H2⟩
  iapply (ret_step c)
  iapply Hk
  isplitl [HO]; · iexact HO
  isplitl [Hw]; · iexact Hw
  isplitl [H0]; · iexact H0
  isplitl [H1]; · iexact H1
  iexact H2

theorem part10 (c : Dev nD) (v235 v237 : FVec F S256x128 .bf16) (a : FVec F S256x256 .f32) (b : FVec F S256x128 .bf16) {Q : _ → sProp 𝕄} :
    iprop(ctx m ρ K ∗ ow c 0 ∗ wPts c c fullShare (GW m ρ) ∗ wGot m ρ c 2 ∗ wWait c 3 ∗ wWait c 4)
      ⊢ iprop(((ow c 0 ∗ wPts c c fullShare (GW m ρ) ∗ wGot m ρ c 2 ∗ wGot m ρ c 3 ∗ wGot m ρ c 4)
          -∗ Q ⟨k0_pay11 (F := F) v235 v237 a b (WL m ρ 2 1) (WL m ρ 3 0) (WL m ρ 3 1) (WL m ρ 4 0), k0_pay12 (F := F) v235 v237⟩)
        -∗ WP c (k0_part10 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            (myId c) v235 v237 a b) Q) := by
  rw [k0_part10_eq_skeleton]; unfold k0_part10_skel
  iintro ⟨#Hctx, HO, Hw, H2, H3, H4⟩ Hk
  iapply (loadW_step m ρ c 2 1 rfl) $$ [Hw H2]
  · isplitl [Hw]; · iexact Hw
    iexact H2
  iintro ⟨Hw, H2⟩
  iapply (cond_w m ρ K c 3 (guard c 3) (sem_wr (j := 3) rfl _) (wM_of (j := 3) rfl _)) $$ [HO H3]
  · isplitr; · iexact Hctx
    isplitl [HO]; · iexact HO
    iexact H3
  iintro ⟨HO, H3⟩
  iapply (loadW_step m ρ c 3 0 rfl) $$ [Hw H3]
  · isplitl [Hw]; · iexact Hw
    iexact H3
  iintro ⟨Hw, H3⟩
  iapply (loadW_step m ρ c 3 1 rfl) $$ [Hw H3]
  · isplitl [Hw]; · iexact Hw
    iexact H3
  iintro ⟨Hw, H3⟩
  iapply (cond_w m ρ K c 4 (guard c 4) (sem_wr (j := 4) rfl _) (wM_of (j := 4) rfl _)) $$ [HO H4]
  · isplitr; · iexact Hctx
    isplitl [HO]; · iexact HO
    iexact H4
  iintro ⟨HO, H4⟩
  iapply (loadW_step m ρ c 4 0 rfl) $$ [Hw H4]
  · isplitl [Hw]; · iexact Hw
    iexact H4
  iintro ⟨Hw, H4⟩
  iapply (ret_step c)
  iapply Hk
  isplitl [HO]; · iexact HO
  isplitl [Hw]; · iexact Hw
  isplitl [H2]; · iexact H2
  isplitl [H3]; · iexact H3
  iexact H4

theorem part11 (c : Dev nD) (v235 v237 : FVec F S256x128 .bf16) (a : FVec F S256x256 .f32) (b : FVec F S256x128 .bf16) {Q : _ → sProp 𝕄} :
    iprop(ctx m ρ K ∗ ow c 0 ∗ wPts c c fullShare (GW m ρ) ∗ wGot m ρ c 4 ∗ wWait c 5 ∗ wWait c 6)
      ⊢ iprop(((ow c 0 ∗ wPts c c fullShare (GW m ρ) ∗ wGot m ρ c 4 ∗ wGot m ρ c 5 ∗ wGot m ρ c 6)
          -∗ Q ⟨k0_pay13 (F := F) v235 v237 a b (WL m ρ 4 1) (WL m ρ 5 0) (WL m ρ 5 1) (WL m ρ 6 0), k0_pay14 (F := F) v235 v237⟩)
        -∗ WP c (k0_part11 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            (myId c) v235 v237 a b) Q) := by
  rw [k0_part11_eq_skeleton]; unfold k0_part11_skel
  iintro ⟨#Hctx, HO, Hw, H4, H5, H6⟩ Hk
  iapply (loadW_step m ρ c 4 1 rfl) $$ [Hw H4]
  · isplitl [Hw]; · iexact Hw
    iexact H4
  iintro ⟨Hw, H4⟩
  iapply (cond_w m ρ K c 5 (guard c 5) (sem_wr (j := 5) rfl _) (wM_of (j := 5) rfl _)) $$ [HO H5]
  · isplitr; · iexact Hctx
    isplitl [HO]; · iexact HO
    iexact H5
  iintro ⟨HO, H5⟩
  iapply (loadW_step m ρ c 5 0 rfl) $$ [Hw H5]
  · isplitl [Hw]; · iexact Hw
    iexact H5
  iintro ⟨Hw, H5⟩
  iapply (loadW_step m ρ c 5 1 rfl) $$ [Hw H5]
  · isplitl [Hw]; · iexact Hw
    iexact H5
  iintro ⟨Hw, H5⟩
  iapply (cond_w m ρ K c 6 (guard c 6) (sem_wr (j := 6) rfl _) (wM_of (j := 6) rfl _)) $$ [HO H6]
  · isplitr; · iexact Hctx
    isplitl [HO]; · iexact HO
    iexact H6
  iintro ⟨HO, H6⟩
  iapply (loadW_step m ρ c 6 0 rfl) $$ [Hw H6]
  · isplitl [Hw]; · iexact Hw
    iexact H6
  iintro ⟨Hw, H6⟩
  iapply (ret_step c)
  iapply Hk
  isplitl [HO]; · iexact HO
  isplitl [Hw]; · iexact Hw
  isplitl [H4]; · iexact H4
  isplitl [H5]; · iexact H5
  iexact H6

theorem part12 (c : Dev nD) (v235 v237 : FVec F S256x128 .bf16) (a : FVec F S256x256 .f32) (b : FVec F S256x128 .bf16) (f : (cc0_stg3_0 : Ref sig .tc).ty.Contents (Elt F)) {Q : _ → sProp 𝕄} :
    iprop(ctx m ρ K ∗ ow c 0 ∗ wPts c c fullShare (GW m ρ) ∗ wGot m ρ c 6 ∗ wWait c 7 ∗ (((c : Thread nD τ).loc cc0_stg3_0) ↦{fullShare} f) ∗ wPend c 1)
      ⊢ iprop(((ow c 0 ∗ wPts c c fullShare (GW m ρ) ∗ wGot m ρ c 6 ∗ wGot m ρ c 7
          ∗ (((c : Thread nD τ).loc cc0_stg3_0) ↦{fullShare} k0_pay15 (F := F) v235 v237 a b (WL m ρ 6 1) (WL m ρ 7 0) (WL m ρ 7 1)) ∗ wDone m ρ c 1) -∗ Q ⟨⟩)
        -∗ WP c (k0_part12 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c (myId c) v235 v237 a b) Q) := by
  rw [k0_part12_eq_skeleton]; unfold k0_part12_skel
  iintro ⟨#Hctx, HO, Hw, H6, H7, Ho, Hp1⟩ Hk
  iapply (loadW_step m ρ c 6 1 rfl) $$ [Hw H6]
  · isplitl [Hw]; · iexact Hw
    iexact H6
  iintro ⟨Hw, H6⟩
  iapply (cond_w m ρ K c 7 (guard c 7) (sem_wr (j := 7) rfl _) (wM_of (j := 7) rfl _)) $$ [HO H7]
  · isplitr; · iexact Hctx
    isplitl [HO]; · iexact HO
    iexact H7
  iintro ⟨HO, H7⟩
  iapply (loadW_step m ρ c 7 0 rfl) $$ [Hw H7]
  · isplitl [Hw]; · iexact Hw
    iexact H7
  iintro ⟨Hw, H7⟩
  iapply (loadW_step m ρ c 7 1 rfl) $$ [Hw H7]
  · isplitl [Hw]; · iexact Hw
    iexact H7
  iintro ⟨Hw, H7⟩
  iapply (load_step (F := F) c (mr := (Memref.whole cc0_stg3_0 : Memref sig .tc .vmem S256x256 .f32)) (Finset.subset_univ _) rfl) $$ Ho
  iintro Ho
  iapply (storeO_step c f) $$ Ho
  iintro Ho
  iapply (wWaitS_step m ρ K c 1 (by decide) (sem_ws (j := 1) rfl _)) $$ [HO Hp1]
  · isplitr; · iexact Hctx
    isplitl [HO]; · iexact HO
    iexact Hp1
  iintro ⟨HO, Hp1⟩
  iapply (ret_step c)
  iapply Hk
  isplitl [HO]; · iexact HO
  isplitl [Hw]; · iexact Hw
  isplitl [H6]; · iexact H6
  isplitl [H7]; · iexact H7
  isplitl [Ho]; · iexact Ho
  iexact Hp1

theorem part13 (c : Dev nD) {Q : PUnit → sProp 𝕄} :
    iprop(ctx m ρ K ∗ ow c 0 ∗ cPend c 1 ∗ wPend c 2 ∗ cPend c 2 ∗ wPend c 3 ∗ cPend c 3 ∗ wPend c 4)
      ⊢ iprop(((ow c 0 ∗ cDone m ρ c 1 ∗ wDone m ρ c 2 ∗ cDone m ρ c 2 ∗ wDone m ρ c 3 ∗ cDone m ρ c 3 ∗ wDone m ρ c 4) -∗ Q ⟨⟩)
        -∗ WP c (k0_part13 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c) Q) := by
  rw [k0_part13_eq_skeleton]; unfold k0_part13_skel
  iintro ⟨#Hctx, HO, Hd1, Hp2, Hd2, Hp3, Hd3, Hp4⟩ Hk
  iapply (cWaitS_step m ρ K c 1 (by decide) (sem_cs (j := 1) rfl _) (cM_of (k0_off4_eq c) _)) $$ [HO Hd1]
  · isplitr; · iexact Hctx
    isplitl [HO]; · iexact HO
    iexact Hd1
  iintro ⟨HO, Hd1⟩
  iapply (wWaitS_step m ρ K c 2 (by decide) (sem_ws (j := 2) rfl _)) $$ [HO Hp2]
  · isplitr; · iexact Hctx
    isplitl [HO]; · iexact HO
    iexact Hp2
  iintro ⟨HO, Hp2⟩
  iapply (cWaitS_step m ρ K c 2 (by decide) (sem_cs (j := 2) rfl _) (cM_of (k0_off4_eq c) _)) $$ [HO Hd2]
  · isplitr; · iexact Hctx
    isplitl [HO]; · iexact HO
    iexact Hd2
  iintro ⟨HO, Hd2⟩
  iapply (wWaitS_step m ρ K c 3 (by decide) (sem_ws (j := 3) rfl _)) $$ [HO Hp3]
  · isplitr; · iexact Hctx
    isplitl [HO]; · iexact HO
    iexact Hp3
  iintro ⟨HO, Hp3⟩
  iapply (cWaitS_step m ρ K c 3 (by decide) (sem_cs (j := 3) rfl _) (cM_of (k0_off4_eq c) _)) $$ [HO Hd3]
  · isplitr; · iexact Hctx
    isplitl [HO]; · iexact HO
    iexact Hd3
  iintro ⟨HO, Hd3⟩
  iapply (wWaitS_step m ρ K c 4 (by decide) (sem_ws (j := 4) rfl _)) $$ [HO Hp4]
  · isplitr; · iexact Hctx
    isplitl [HO]; · iexact HO
    iexact Hp4
  iintro ⟨HO, Hp4⟩
  iapply (ret_step c)
  iapply Hk
  isplitl [HO]; · iexact HO
  isplitl [Hd1]; · iexact Hd1
  isplitl [Hp2]; · iexact Hp2
  isplitl [Hd2]; · iexact Hd2
  isplitl [Hp3]; · iexact Hp3
  isplitl [Hd3]; · iexact Hd3
  iexact Hp4

theorem part14 (c : Dev nD) {Q : PUnit → sProp 𝕄} :
    iprop(ctx m ρ K ∗ ow c 0 ∗ cPend c 4 ∗ wPend c 5 ∗ cPend c 5 ∗ wPend c 6 ∗ cPend c 6)
      ⊢ iprop(((ow c 0 ∗ cDone m ρ c 4 ∗ wDone m ρ c 5 ∗ cDone m ρ c 5 ∗ wDone m ρ c 6 ∗ cDone m ρ c 6) -∗ Q ⟨⟩)
        -∗ WP c (k0_part14 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6
            c) Q) := by
  rw [k0_part14_eq_skeleton]; unfold k0_part14_skel
  iintro ⟨#Hctx, HO, Hd4, Hp5, Hd5, Hp6, Hd6⟩ Hk
  iapply (cWaitS_step m ρ K c 4 (by decide) (sem_cs (j := 4) rfl _) (cM_of (k0_off4_eq c) _)) $$ [HO Hd4]
  · isplitr; · iexact Hctx
    isplitl [HO]; · iexact HO
    iexact Hd4
  iintro ⟨HO, Hd4⟩
  iapply (wWaitS_step m ρ K c 5 (by decide) (sem_ws (j := 5) rfl _)) $$ [HO Hp5]
  · isplitr; · iexact Hctx
    isplitl [HO]; · iexact HO
    iexact Hp5
  iintro ⟨HO, Hp5⟩
  iapply (cWaitS_step m ρ K c 5 (by decide) (sem_cs (j := 5) rfl _) (cM_of (k0_off4_eq c) _)) $$ [HO Hd5]
  · isplitr; · iexact Hctx
    isplitl [HO]; · iexact HO
    iexact Hd5
  iintro ⟨HO, Hd5⟩
  iapply (wWaitS_step m ρ K c 6 (by decide) (sem_ws (j := 6) rfl _)) $$ [HO Hp6]
  · isplitr; · iexact Hctx
    isplitl [HO]; · iexact HO
    iexact Hp6
  iintro ⟨HO, Hp6⟩
  iapply (cWaitS_step m ρ K c 6 (by decide) (sem_cs (j := 6) rfl _) (cM_of (k0_off4_eq c) _)) $$ [HO Hd6]
  · isplitr; · iexact Hctx
    isplitl [HO]; · iexact HO
    iexact Hd6
  iintro ⟨HO, Hd6⟩
  iapply (ret_step c)
  iapply Hk
  isplitl [HO]; · iexact HO
  isplitl [Hd4]; · iexact Hd4
  isplitl [Hp5]; · iexact Hp5
  isplitl [Hd5]; · iexact Hd5
  isplitl [Hp6]; · iexact Hp6
  iexact Hd6

end Cert.KernelIdealRun

end
-- ==== Proof.KernelIdealBody.lean ====
/-
# The kernel's body

One device's body from what it holds at the start to the block of the result, every semaphore back at zero.
-/
module

public import proofs.«01_k».proof.Proof.KernelIdealEnds
public import proofs.«01_k».proof.Proof.KernelIdealArrivals

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cl → ℕ)

/-! ## What it computes -/

/-- Which tokens stay on which expert, as ones and zeros. -/
def keepV (c : Dev nD) : FVec F S256x128 .bf16 := k0_pay5 (F := F) (k0_pay1 (F := F) (rstg m ρ c)) (k0_pay3 (F := F) (GC m ρ)) (k0_pay4 (myId c))
def xV (c : Dev nD) : FVec F S256x128 .bf16 := k0_pay6 (F := F) (xstg m ρ c)
/-- The sum after the first expert's matrix, and the next column of inputs. -/
def acc0 (c : Dev nD) : FVec F S256x256 .f32 :=
  k0_pay7 (F := F) (k0_pay1 (F := F) (rstg m ρ c)) (k0_pay3 (F := F) (GC m ρ)) (k0_pay4 (myId c)) (xstg m ρ c) (WL m ρ 0 0)
def col0 (c : Dev nD) : FVec F S256x128 .bf16 :=
  k0_pay8 (F := F) (k0_pay1 (F := F) (rstg m ρ c)) (k0_pay3 (F := F) (GC m ρ)) (k0_pay4 (myId c)) (xstg m ρ c)
def acc1 (c : Dev nD) : FVec F S256x256 .f32 :=
  k0_pay9 (F := F) (keepV m ρ c) (xV m ρ c) (acc0 m ρ c) (col0 m ρ c) (WL m ρ 0 1) (WL m ρ 1 0) (WL m ρ 1 1) (WL m ρ 2 0)
def acc2 (c : Dev nD) : FVec F S256x256 .f32 :=
  k0_pay11 (F := F) (keepV m ρ c) (xV m ρ c) (acc1 m ρ c) (k0_pay10 (F := F) (keepV m ρ c) (xV m ρ c)) (WL m ρ 2 1) (WL m ρ 3 0) (WL m ρ 3 1) (WL m ρ 4 0)
def acc3 (c : Dev nD) : FVec F S256x256 .f32 :=
  k0_pay13 (F := F) (keepV m ρ c) (xV m ρ c) (acc2 m ρ c) (k0_pay12 (F := F) (keepV m ρ c) (xV m ρ c)) (WL m ρ 4 1) (WL m ρ 5 0) (WL m ρ 5 1) (WL m ρ 6 0)
/-- Device `c`'s block of the result. -/
def outAt (c : Dev nD) : FVec F S256x256 .f32 :=
  k0_pay15 (F := F) (keepV m ρ c) (xV m ρ c) (acc3 m ρ c) (k0_pay14 (F := F) (keepV m ρ c) (xV m ρ c)) (WL m ρ 6 1) (WL m ρ 7 0) (WL m ρ 7 1)

/-! ## Positions, kind by kind -/

omit [FloatOps F] in
theorem positions (c : Dev nD) (R : Cl → ℕ) :
    (bigSep Finset.univ fun k : Cl => (atPos ER (kcell (c, k)) (R k) ∅ 0 : sProp 𝕄))
      = iprop(atPos ER (barCell c) (R none) ∅ 0 ∗ atPos ER (copyCell c) (R (some none)) ∅ 0
        ∗ ((bigSep Finset.univ fun j : Fin 8 => atPos ER (arrCell false false j c) (R (some (some (false, false, j)))) ∅ 0)
          ∗ (bigSep Finset.univ fun j : Fin 8 => atPos ER (arrCell false true j c) (R (some (some (false, true, j)))) ∅ 0))
        ∗ ((bigSep Finset.univ fun j : Fin 8 => atPos ER (arrCell true false j c) (R (some (some (true, false, j)))) ∅ 0)
          ∗ (bigSep Finset.univ fun j : Fin 8 => atPos ER (arrCell true true j c) (R (some (some (true, true, j)))) ∅ 0))) :=
  kinds _

omit [FloatOps F] in
theorem send_end (t : Bool) (c : Dev nD) :
    iprop(atPos ER (arrCell t false 0 c) 0 ∅ 0 ∗ atPos ER (arrCell t false 1 c) 1 ∅ 0 ∗ atPos ER (arrCell t false 2 c) 1 ∅ 0 ∗ atPos ER (arrCell t false 3 c) 1 ∅ 0
        ∗ atPos ER (arrCell t false 4 c) 1 ∅ 0 ∗ atPos ER (arrCell t false 5 c) 1 ∅ 0 ∗ atPos ER (arrCell t false 6 c) 1 ∅ 0 ∗ atPos ER (arrCell t false 7 c) 1 ∅ 0)
      ⊢ (bigSep Finset.univ fun j : Fin 8 => atPos ER (arrCell t false j c) (if j = 0 then 0 else 1) ∅ 0 : sProp 𝕄) := by
  rw [eight]; exact .rfl

/-- The credits for what will arrive. -/
def arrivals (c : Dev nD) : sProp 𝕄 :=
  iprop((bigSep Finset.univ fun j : Fin 8 => iprop(if j = c then emp else cred (tallyAt (arrCell true true j c) () Nc)))
    ∗ (bigSep Finset.univ fun j : Fin 8 => iprop(if j = c then emp else cred (tallyAt (arrCell false true j c) () Nw))))

theorem c_waits (c : Dev nD) :
    iprop((bigSep Finset.univ fun j : Fin 8 => atPos ER (arrCell true true j c) 0 ∅ 0) ∗ (bigSep Finset.univ fun j : Fin 8 => iprop(if j = c then emp else cred (tallyAt (arrCell true true j c) () Nc))))
      ⊢ (bigSep Finset.univ (cWait (F := F) c) : sProp 𝕄) := by
  rw [← bigSep_sep']; exact .rfl
theorem w_waits (c : Dev nD) :
    iprop((bigSep Finset.univ fun j : Fin 8 => atPos ER (arrCell false true j c) 0 ∅ 0) ∗ (bigSep Finset.univ fun j : Fin 8 => iprop(if j = c then emp else cred (tallyAt (arrCell false true j c) () Nw))))
      ⊢ (bigSep Finset.univ (wWait (F := F) c) : sProp 𝕄) := by
  rw [← bigSep_sep']; exact .rfl

/-! ## The body -/

theorem bind_step {α β : Type} {p : Prog (TpuEff nD τ sig (Elt F) Λ₀ .tc) α} {k : α → Prog (TpuEff nD τ sig (Elt F) Λ₀ .tc) β} {Q : β → sProp 𝕄} (c : Dev nD) :
    WP c p (fun a => WP c (k a) Q) ⊢ WP c (p >>= k) Q := Entails.of_eq (wp_bind _ _ _ p k Q).symm

/-- What a device holds when its body starts, its staged blocks and tables beside. -/
def atStart (c : Dev nD) : sProp 𝕄 :=
  iprop(cred (tallyAt (barCell c) () 7) ∗ (bigSep Finset.univ fun k : Cl => atPos ER (kcell (c, k)) 0 ∅ 0)
    ∗ dutyTok ER (copyCell c) 0 c ∗ (bigSep (Finset.univ.erase (0 : Fin 8)) (duties c)) ∗ arrivals c)

/-- What it holds at the end. -/
def atEnd (c : Dev nD) : sProp 𝕄 :=
  iprop((∃ f, (((c : Thread nD τ).loc cc0_scratch0) ↦{fullShare} f)) ∗ (∃ f, (((c : Thread nD τ).loc cc0_scratch1) ↦{fullShare} f))
    ∗ bigSep Finset.univ fun k : Cl => semVal (kcell (c, k)) 0)

theorem body_run (c : Dev nD) {Q : PUnit → sProp 𝕄} :
    iprop(ctx m ρ K ∗ ow c (O₀ c) ∗ atStart c
        ∗ (∃ f, (((c : Thread nD τ).loc cc0_scratch0) ↦{fullShare} f)) ∗ (∃ f, (((c : Thread nD τ).loc cc0_scratch1) ↦{fullShare} f))
        ∗ (((c : Thread nD τ).loc cc0_stg0_0) ↦{fullShare} xstg m ρ c) ∗ (((c : Thread nD τ).loc cc0_stg1_0) ↦{fullShare} rstg m ρ c)
        ∗ (((c : Thread nD τ).loc cc0_stg2_0) ↦{fullShare} wstg m ρ c) ∗ (∃ f, (((c : Thread nD τ).loc cc0_stg3_0) ↦{fullShare} f)))
      ⊢ iprop(((ow c 0 ∗ atEnd c
          ∗ (((c : Thread nD τ).loc cc0_stg0_0) ↦{fullShare} xstg m ρ c) ∗ (((c : Thread nD τ).loc cc0_stg1_0) ↦{fullShare} rstg m ρ c)
          ∗ (((c : Thread nD τ).loc cc0_stg2_0) ↦{fullShare} wstg m ρ c) ∗ (((c : Thread nD τ).loc cc0_stg3_0) ↦{fullShare} outAt m ρ c)) -∗ Q ⟨⟩)
        -∗ WP c (cc0_body (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3 cc0_scratch4 cc0_scratch5 cc0_scratch6) Q) := by
  rw [cc0_body_eq_skeleton]; unfold cc0_body_skel atStart arrivals
  iintro ⟨#Hctx, HO, ⟨Hcb, Hpos, Hdc, Hdu, Hca, Hwa⟩, Hs0, Hs1, Hx, Hr, Hw, ⟨%fo, Ho⟩⟩ Hk
  ihave Hpos := (Entails.of_eq (positions (F := F) c fun _ => 0)) $$ Hpos
  icases Hpos with ⟨HaB, HaC, ⟨Hws, Hwr⟩, Hcs, Hcr⟩
  ihave Hcw := (c_waits (F := F) c) $$ [Hcr Hca]
  · isplitl [Hcr]; · iexact Hcr
    iexact Hca
  ihave Hww := (w_waits (F := F) c) $$ [Hwr Hwa]
  · isplitl [Hwr]; · iexact Hwr
    iexact Hwa
  ihave Hww := (Entails.of_eq (eight (wWait (F := F) c))) $$ Hww
  icases Hww with ⟨H0, H1, H2, H3, H4, H5, H6, H7⟩
  ihave Hws := (Entails.of_eq (eight (F := F) _)) $$ Hws
  icases Hws with ⟨HaW0, HaW1, HaW2, HaW3, HaW4, HaW5, HaW6, HaW7⟩
  ihave Hcs := (Entails.of_eq (eight (F := F) _)) $$ Hcs
  icases Hcs with ⟨HaD0, HaD1, HaD2, HaD3, HaD4, HaD5, HaD6, HaD7⟩
  ihave Ht := (deal_tables (F := F) c) $$ [Hs0 Hs1]
  · isplitl [Hs0]; · iexact Hs0
    iexact Hs1
  icases Ht with ⟨Hw0, Hc0, Hbp⟩
  ihave Ht := (deal_words (F := F) c) $$ [Hdu Hbp]
  · isplitl [Hdu]; · iexact Hdu
    iexact Hbp
  icases Ht with ⟨Hsig, Hdu⟩
  ihave Hsig := (Entails.of_eq (seven (sigRes (F := F) c))) $$ Hsig
  icases Hsig with ⟨Hg1, Hg2, Hg3, Hg4, Hg5, Hg6, Hg7⟩
  ihave Hw := (Entails.of_eq ((s_shares m ρ c).trans (congrArg _ (bigSep_univ_at _ 0)))) $$ Hw
  icases Hw with ⟨HwK, Hs0, Hst⟩
  -- the words, the device's own counts, the local copy
  iapply (bind_step c)
  iapply (part1 m ρ K c) $$ [HO Hg1 Hg2 Hg3 Hg4 Hg5]
  · isplitr; · iexact Hctx
    isplitl [HO]; · iexact HO
    isplitl [Hg1]; · iexact Hg1
    isplitl [Hg2]; · iexact Hg2
    isplitl [Hg3]; · iexact Hg3
    isplitl [Hg4]; · iexact Hg4
    iexact Hg5
  iintro HO
  iapply (bind_step c)
  iapply (part2 m ρ K c _ _) $$ [HO Hg6 Hg7 Hcb HaB Hr Hc0 Hw0 Hs0 Hdc]
  · isplitr; · iexact Hctx
    isplitl [HO]; · iexact HO
    isplitl [Hg6]; · iexact Hg6
    isplitl [Hg7]; · iexact Hg7
    isplitl [Hcb]; · iexact Hcb
    isplitl [HaB]; · iexact HaB
    isplitl [Hr]; · iexact Hr
    isplitl [Hc0]; · iexact Hc0
    isplitl [Hw0]; · iexact Hw0
    isplitl [Hs0]; · iexact Hs0
    iexact Hdc
  iintro ⟨HO, HaB, Hbar, Hr, Hc, Hcc⟩
  ihave Hc := (Entails.of_eq ((show cPts c c fullShare (GC m ρ) = iprop(cPts c c qKeep (GC m ρ) ∗ bigSep Finset.univ (cTok m ρ c)) from c_shares c c (GC m ρ)).trans (congrArg _ (bigSep_univ_at _ 0)))) $$ Hc
  icases Hc with ⟨HcK, Hct0, Hct⟩
  ihave Ht := (deal_sends m ρ c) $$ [Hdu Hbar Hct Hst]
  · isplitl [Hdu]; · iexact Hdu
    isplitl [Hbar]; · iexact Hbar
    isplitl [Hct]; · iexact Hct
    iexact Hst
  icases Ht with ⟨Hcs, Hws⟩
  ihave Hcs := (Entails.of_eq (seven (cRes m ρ c))) $$ Hcs
  icases Hcs with ⟨Hd1, Hd2, Hd3, Hd4, Hd5, Hd6, Hd7⟩
  ihave Hws := (Entails.of_eq (seven (wRes m ρ c))) $$ Hws
  icases Hws with ⟨Hp1, Hp2, Hp3, Hp4, Hp5, Hp6, Hp7⟩
  -- the transfers
  iapply (bind_step c)
  iapply (part3 m ρ K c _ _) $$ [HO Hd1 Hp1 Hd2 Hp2]
  · isplitr; · iexact Hctx
    isplitl [HO]; · iexact HO
    isplitl [Hd1]; · iexact Hd1
    isplitl [Hp1]; · iexact Hp1
    isplitl [Hd2]; · iexact Hd2
    iexact Hp2
  iintro ⟨HO, Hd1, Hp1, Hd2, Hp2⟩
  iapply (bind_step c)
  iapply (part4 m ρ K c _ _) $$ [HO Hd3 Hp3 Hd4]
  · isplitr; · iexact Hctx
    isplitl [HO]; · iexact HO
    isplitl [Hd3]; · iexact Hd3
    isplitl [Hp3]; · iexact Hp3
    iexact Hd4
  iintro ⟨HO, Hd3, Hp3, Hd4⟩
  iapply (bind_step c)
  iapply (part5 m ρ K c _ _ _) $$ [HO Hp4 Hd5 Hp5]
  · isplitr; · iexact Hctx
    isplitl [HO]; · iexact HO
    isplitl [Hp4]; · iexact Hp4
    isplitl [Hd5]; · iexact Hd5
    iexact Hp5
  iintro ⟨HO, Hp4, Hd5, Hp5⟩
  iapply (bind_step c)
  iapply (part6 m ρ K c _ _) $$ [HO Hd6 Hp6 Hd7]
  · isplitr; · iexact Hctx
    isplitl [HO]; · iexact HO
    isplitl [Hd6]; · iexact Hd6
    isplitl [Hp6]; · iexact Hp6
    iexact Hd7
  iintro ⟨HO, Hd6, Hp6, Hd7⟩
  iapply (bind_step c)
  iapply (part7 m ρ K c) $$ [HO Hp7 Hcw HcK]
  · isplitr; · iexact Hctx
    isplitl [HO]; · iexact HO
    isplitl [Hp7]; · iexact Hp7
    isplitl [Hcw]; · iexact Hcw
    iexact HcK
  iintro ⟨HO, Hp7, HcK, Hcg⟩
  -- the sum over the experts, each device's matrices as they arrive
  iapply (bind_step c)
  iapply (part8 m ρ K c _ _ _) $$ [HO Hx Hcc HaC H0]
  · isplitr; · iexact Hctx
    isplitl [HO]; · iexact HO
    isplitl [Hx]; · iexact Hx
    isplitl [Hcc]; · iexact Hcc
    isplitl [HaC]; · iexact HaC
    iexact H0
  iintro ⟨HO, Hx, HaC, Hs0, Hw, H0⟩
  iapply (bind_step c)
  iapply (part9 m ρ K c _ _ _ _) $$ [HO Hw H0 H1 H2]
  · isplitr; · iexact Hctx
    isplitl [HO]; · iexact HO
    isplitl [Hw]; · iexact Hw
    isplitl [H0]; · iexact H0
    isplitl [H1]; · iexact H1
    iexact H2
  iintro ⟨HO, Hw, H0, H1, H2⟩
  iapply (bind_step c)
  iapply (part10 m ρ K c _ _ _ _) $$ [HO Hw H2 H3 H4]
  · isplitr; · iexact Hctx
    isplitl [HO]; · iexact HO
    isplitl [Hw]; · iexact Hw
    isplitl [H2]; · iexact H2
    isplitl [H3]; · iexact H3
    iexact H4
  iintro ⟨HO, Hw, H2, H3, H4⟩
  iapply (bind_step c)
  iapply (part11 m ρ K c _ _ _ _) $$ [HO Hw H4 H5 H6]
  · isplitr; · iexact Hctx
    isplitl [HO]; · iexact HO
    isplitl [Hw]; · iexact Hw
    isplitl [H4]; · iexact H4
    isplitl [H5]; · iexact H5
    iexact H6
  iintro ⟨HO, Hw, H4, H5, H6⟩
  iapply (bind_step c)
  iapply (part12 m ρ K c _ _ _ _ fo) $$ [HO Hw H6 H7 Ho Hp1 HaW1]
  · isplitr; · iexact Hctx
    isplitl [HO]; · iexact HO
    isplitl [Hw]; · iexact Hw
    isplitl [H6]; · iexact H6
    isplitl [H7]; · iexact H7
    isplitl [Ho]; · iexact Ho
    unfold wPend
    isplitl [Hp1]; · iexact Hp1
    iexact HaW1
  iintro ⟨HO, Hw, H6, H7, Ho, Hp1⟩
  -- the sources given back
  iapply (bind_step c)
  iapply (part13 m ρ K c) $$ [HO Hd1 Hp2 Hd2 Hp3 Hd3 Hp4 HaD1 HaW2 HaD2 HaW3 HaD3 HaW4]
  · isplitr; · iexact Hctx
    isplitl [HO]; · iexact HO
    isplitl [Hd1 HaD1]
    · unfold cPend
      isplitl [Hd1]; · iexact Hd1
      iexact HaD1
    isplitl [Hp2 HaW2]
    · unfold wPend
      isplitl [Hp2]; · iexact Hp2
      iexact HaW2
    isplitl [Hd2 HaD2]
    · unfold cPend
      isplitl [Hd2]; · iexact Hd2
      iexact HaD2
    isplitl [Hp3 HaW3]
    · unfold wPend
      isplitl [Hp3]; · iexact Hp3
      iexact HaW3
    isplitl [Hd3 HaD3]
    · unfold cPend
      isplitl [Hd3]; · iexact Hd3
      iexact HaD3
    unfold wPend
    isplitl [Hp4]; · iexact Hp4
    iexact HaW4
  iintro ⟨HO, Hd1, Hp2, Hd2, Hp3, Hd3, Hp4⟩
  iapply (bind_step c)
  iapply (part14 m ρ K c) $$ [HO Hd4 Hp5 Hd5 Hp6 Hd6 HaD4 HaW5 HaD5 HaW6 HaD6]
  · isplitr; · iexact Hctx
    isplitl [HO]; · iexact HO
    isplitl [Hd4 HaD4]
    · unfold cPend
      isplitl [Hd4]; · iexact Hd4
      iexact HaD4
    isplitl [Hp5 HaW5]
    · unfold wPend
      isplitl [Hp5]; · iexact Hp5
      iexact HaW5
    isplitl [Hd5 HaD5]
    · unfold cPend
      isplitl [Hd5]; · iexact Hd5
      iexact HaD5
    isplitl [Hp6 HaW6]
    · unfold wPend
      isplitl [Hp6]; · iexact Hp6
      iexact HaW6
    unfold cPend
    isplitl [Hd6]; · iexact Hd6
    iexact HaD6
  iintro ⟨HO, Hd4, Hp5, Hd5, Hp6, Hd6⟩
  iapply (wWaitS_step m ρ K c 7 (by decide) (sem_ws (j := 7) rfl _)) $$ [HO Hp7 HaW7]
  · isplitr; · iexact Hctx
    isplitl [HO]; · iexact HO
    unfold wPend
    isplitl [Hp7]; · iexact Hp7
    iexact HaW7
  iintro ⟨HO, Hp7⟩
  iapply (cWaitS_step m ρ K c 7 (by decide) (sem_cs (j := 7) rfl _) (cM_of (k0_off4_eq c) _)) $$ [HO Hd7 HaD7]
  · isplitr; · iexact Hctx
    isplitl [HO]; · iexact HO
    unfold cPend
    isplitl [Hd7]; · iexact Hd7
    iexact HaD7
  iintro ⟨HO, Hd7⟩
  unfold wDone cDone
  icases Hp1 with ⟨HaW1, Hs1⟩
  icases Hd1 with ⟨HaD1, Hct1⟩
  icases Hp2 with ⟨HaW2, Hs2⟩
  icases Hd2 with ⟨HaD2, Hct2⟩
  icases Hp3 with ⟨HaW3, Hs3⟩
  icases Hd3 with ⟨HaD3, Hct3⟩
  icases Hp4 with ⟨HaW4, Hs4⟩
  icases Hd4 with ⟨HaD4, Hct4⟩
  icases Hp5 with ⟨HaW5, Hs5⟩
  icases Hd5 with ⟨HaD5, Hct5⟩
  icases Hp6 with ⟨HaW6, Hs6⟩
  icases Hd6 with ⟨HaD6, Hct6⟩
  icases Hp7 with ⟨HaW7, Hs7⟩
  icases Hd7 with ⟨HaD7, Hct7⟩
  -- every semaphore back at zero
  ihave Hwe := (w_end m ρ c) $$ [Hw H0 H1 H2 H3 H4 H5 H6 H7]
  · isplitl [Hw]; · iexact Hw
    rw [eight]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hwe with ⟨Hs0', Hwr⟩
  ihave Hce := (c_end m ρ c) $$ [HcK Hct0 Hct1 Hct2 Hct3 Hct4 Hct5 Hct6 Hct7 Hcg]
  · isplitl [HcK]; · iexact HcK
    isplitr [Hcg]
    · rw [eight]
      isplitl [Hct0]; · iexact Hct0
      isplitl [Hct1]; · iexact Hct1
      isplitl [Hct2]; · iexact Hct2
      isplitl [Hct3]; · iexact Hct3
      isplitl [Hct4]; · iexact Hct4
      isplitl [Hct5]; · iexact Hct5
      isplitl [Hct6]; · iexact Hct6
      iexact Hct7
    iexact Hcg
  icases Hce with ⟨Hs1', Hcr⟩
  ihave Hws := (send_end (F := F) false c) $$ [HaW0 HaW1 HaW2 HaW3 HaW4 HaW5 HaW6 HaW7]
  · isplitl [HaW0]; · iexact HaW0
    isplitl [HaW1]; · iexact HaW1
    isplitl [HaW2]; · iexact HaW2
    isplitl [HaW3]; · iexact HaW3
    isplitl [HaW4]; · iexact HaW4
    isplitl [HaW5]; · iexact HaW5
    isplitl [HaW6]; · iexact HaW6
    iexact HaW7
  ihave Hcs := (send_end (F := F) true c) $$ [HaD0 HaD1 HaD2 HaD3 HaD4 HaD5 HaD6 HaD7]
  · isplitl [HaD0]; · iexact HaD0
    isplitl [HaD1]; · iexact HaD1
    isplitl [HaD2]; · iexact HaD2
    isplitl [HaD3]; · iexact HaD3
    isplitl [HaD4]; · iexact HaD4
    isplitl [HaD5]; · iexact HaD5
    isplitl [HaD6]; · iexact HaD6
    iexact HaD7
  imod (close_all m ρ K c) $$ [HaB HaC Hws Hwr Hcs Hcr] with Hz
  · isplitr; · iexact Hctx
    iapply (Entails.of_eq (positions (F := F) c (rEnd c)).symm)
    isplitl [HaB]; · iexact HaB
    isplitl [HaC]; · iexact HaC
    isplitl [Hws Hwr]
    · isplitl [Hws]; · iexact Hws
      iexact Hwr
    isplitl [Hcs]; · iexact Hcs
    iexact Hcr
  ihave Hst := (Entails.of_eq (s_shares m ρ c).symm) $$ [HwK Hs0 Hs1 Hs2 Hs3 Hs4 Hs5 Hs6 Hs7]
  · isplitl [HwK]; · iexact HwK
    rw [eight]
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iapply (ret_step c)
  iapply Hk
  isplitl [HO]; · iexact HO
  unfold atEnd
  isplitl [Hs0' Hs1' Hz]
  · isplitl [Hs0']
    · iexists _; iexact Hs0'
    isplitl [Hs1']
    · iexists _; iexact Hs1'
    iexact Hz
  isplitl [Hx]; · iexact Hx
  isplitl [Hr]; · iexact Hr
  isplitl [Hst]; · iexact Hst
  iexact Ho

end Cert.KernelIdealRun

end
-- ==== Proof.KernelIdealLaunch.lean ====
/-
# The launch: tokens, invariants and credit

At launch every cell of the exchange gets one token per device. The tokens are then sorted by the device they name, and
each device keeps those it pays with. The semaphores, all at zero, become the cells' invariants, given to every device;
what the devices owe each other becomes each device's credit.
-/
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

theorem kcell_injective : Function.Injective (kcell : Dev nD × Cl → GSem nD τ sig) := by
  rintro ⟨c, k⟩ ⟨d, l⟩ h
  have h1 : c = d := congrArg (fun g : GSem nD τ sig => g.1.1) h
  have h2 : k = l := csem_injective (congrArg Prod.snd h)
  rw [h1, h2]

/-- Every cell of the exchange. -/
def exCells : Finset (GSem nD τ sig) := Finset.univ.map ⟨kcell, kcell_injective⟩

/-- The token that names device `d`, at the first round of a cell. -/
abbrev tokOf (x : (Dev nD × Cl) × Dev nD) : GSem nD τ sig × ℕ × Dev nD := (kcell x.1, 0, x.2)
theorem tokOf_injective : Function.Injective tokOf := by
  rintro ⟨ck, d⟩ ⟨dl, e⟩ h
  have h1 : ck = dl := kcell_injective (congrArg (fun y : GSem nD τ sig × ℕ × Dev nD => y.1) h)
  have h2 : d = e := congrArg (fun y : GSem nD τ sig × ℕ × Dev nD => y.2.2) h
  rw [h1, h2]
def exToks : Finset (GSem nD τ sig × ℕ × Dev nD) := Finset.univ.map ⟨tokOf, tokOf_injective⟩

def u₀ : UU := (initOf (Pipeline.cells cfgs cellOf_inj) (Pipeline.launchToks cfgs cellOf_inj), initOf exCells exToks)

section shuffle
omit [FloatOps F]

theorem pick_of {I : Type} [Fintype I] [DecidableEq I] (Φ : I → sProp 𝕄) (i : I) : bigSep Finset.univ Φ ⊢ Φ i := bigSep_elim (Finset.mem_univ i)
theorem some_of {I : Type} [Fintype I] [DecidableEq I] (S : Finset I) (Φ : I → sProp 𝕄) : bigSep Finset.univ Φ ⊢ bigSep S Φ := bigSep_subset (Finset.subset_univ S)

/-- A cell's tokens. -/
def cellToks (ck : Dev nD × Cl) : sProp 𝕄 := bigSep Finset.univ fun d : Dev nD => dutyTok ER (kcell ck) 0 d

/-- What a device starts with beside the invariants: where it stands at its cells, and the rights it pays with. -/
def holds (c : Dev nD) : sProp 𝕄 :=
  iprop((bigSep Finset.univ fun k : Cl => atPos ER (kcell (c, k)) 0 ∅ 0) ∗ dutyTok ER (copyCell c) 0 c
    ∗ bigSep (Finset.univ.erase (0 : Fin 8)) (duties c))

/-- The rights at another device's cells that name `c`: its barrier's word, and the arrivals of `c`'s slots. -/
theorem toks_there (c d : Dev nD) :
    (bigSep Finset.univ fun k : Cl => (dutyTok ER (kcell (d, k)) 0 c : sProp 𝕄))
      ⊢ iprop(dutyTok ER (barCell d) 0 c ∗ dutyTok ER (arrCell true true c d) 0 c ∗ dutyTok ER (arrCell false true c d) 0 c) := by
  rw [kinds (F := F)]
  iintro ⟨Hb, -, ⟨-, Hw⟩, -, Hc⟩
  isplitl [Hb]; · iexact Hb
  isplitl [Hc]
  · iapply (pick_of (fun j : Fin 8 => (dutyTok ER (arrCell true true j d) 0 c : sProp 𝕄)) c); iexact Hc
  · iapply (pick_of (fun j : Fin 8 => (dutyTok ER (arrCell false true j d) 0 c : sProp 𝕄)) c); iexact Hw

/-- The rights at its own cells that name `c`: its local copy's, and its sends'. -/
theorem toks_here (c : Dev nD) :
    (bigSep Finset.univ fun k : Cl => (dutyTok ER (kcell (c, k)) 0 c : sProp 𝕄))
      ⊢ iprop(dutyTok ER (copyCell c) 0 c ∗ (bigSep (Finset.univ.erase (0 : Fin 8)) fun k => dutyTok ER (arrCell true false k c) 0 c)
        ∗ bigSep (Finset.univ.erase (0 : Fin 8)) fun k => dutyTok ER (arrCell false false k c) 0 c) := by
  rw [kinds (F := F)]
  iintro ⟨-, Hy, ⟨Hw, -⟩, Hc, -⟩
  isplitl [Hy]; · iexact Hy
  isplitl [Hc]
  · iapply (some_of (Finset.univ.erase (0 : Fin 8)) (fun k : Fin 8 => (dutyTok ER (arrCell true false k c) 0 c : sProp 𝕄))); iexact Hc
  · iapply (some_of (Finset.univ.erase (0 : Fin 8)) (fun k : Fin 8 => (dutyTok ER (arrCell false false k c) 0 c : sProp 𝕄))); iexact Hw

/-- Of the tokens that name it, a device takes those it pays with. -/
theorem toks_of (c : Dev nD) :
    (bigSep Finset.univ fun ck : Dev nD × Cl => (dutyTok ER (kcell ck) 0 c : sProp 𝕄))
      ⊢ iprop(dutyTok ER (copyCell c) 0 c ∗ bigSep (Finset.univ.erase (0 : Fin 8)) (duties c)) := by
  rw [bigSep_univ_prod, bigSep_univ_equiv (rot c) (fun d : Dev nD => bigSep Finset.univ fun k : Cl => (dutyTok ER (kcell (d, k)) 0 c : sProp 𝕄)),
    bigSep_univ_at _ (0 : Fin 8)]
  iintro ⟨H0, H⟩
  ihave H0 := (Entails.of_eq (show (bigSep Finset.univ fun k : Cl => (dutyTok ER (kcell (rot c 0, k)) 0 c : sProp 𝕄)) = bigSep Finset.univ fun k : Cl => dutyTok ER (kcell (c, k)) 0 c from
    congrArg (fun d : Dev nD => bigSep Finset.univ fun k : Cl => (dutyTok ER (kcell (d, k)) 0 c : sProp 𝕄)) (nxt_zero c))) $$ H0
  ihave H0 := (toks_here (F := F) c) $$ H0
  icases H0 with ⟨Hy, Hc, Hw⟩
  isplitl [Hy]; · iexact Hy
  iapply (show iprop((bigSep (Finset.univ.erase (0 : Fin 8)) fun k => bigSep Finset.univ fun l : Cl => dutyTok ER (kcell (nxt k c, l)) 0 c)
      ∗ (bigSep (Finset.univ.erase (0 : Fin 8)) fun k => dutyTok ER (arrCell true false k c) 0 c)
      ∗ (bigSep (Finset.univ.erase (0 : Fin 8)) fun k => dutyTok ER (arrCell false false k c) 0 c)) ⊢ (bigSep (Finset.univ.erase (0 : Fin 8)) (duties c) : sProp 𝕄) from by
        rw [← bigSep_sep', ← bigSep_sep']
        refine mono_of fun k _ => ?_
        unfold duties
        iintro ⟨H, Hc, Hw⟩
        ihave H := (toks_there (F := F) c (nxt k c)) $$ H
        icases H with ⟨Hb, Hc', Hw'⟩
        isplitl [Hb]; · iexact Hb
        isplitl [Hc Hc']
        · isplitl [Hc]; · iexact Hc
          iexact Hc'
        · isplitl [Hw]; · iexact Hw
          iexact Hw')
  isplitl [H]; · iexact H
  isplitl [Hc]; · iexact Hc
  iexact Hw

/-- The tokens sorted by the device they name instead of by cell. -/
theorem toks_sorted :
    (bigSep Finset.univ fun c : Dev nD => bigSep Finset.univ fun k : Cl => (cellToks (c, k) : sProp 𝕄))
      = bigSep Finset.univ fun d : Dev nD => bigSep Finset.univ fun ck : Dev nD × Cl => dutyTok ER (kcell ck) 0 d := by
  unfold cellToks
  rw [← bigSep_univ_prod (fun ck : Dev nD × Cl => bigSep Finset.univ fun d : Dev nD => (dutyTok ER (kcell ck) 0 d : sProp 𝕄)),
    ← bigSep_univ_prod (fun x : (Dev nD × Cl) × Dev nD => (dutyTok ER (kcell x.1) 0 x.2 : sProp 𝕄)),
    bigSep_univ_equiv (Equiv.prodComm (Dev nD) (Dev nD × Cl)), bigSep_univ_prod]
  rfl

/-- Every device takes its own. -/
theorem toks_dealt :
    iprop((bigSep Finset.univ fun c : Dev nD => bigSep Finset.univ fun k : Cl => atPos ER (kcell (c, k)) 0 ∅ 0)
        ∗ bigSep Finset.univ fun c : Dev nD => bigSep Finset.univ fun k : Cl => cellToks (c, k))
      ⊢ (bigSep Finset.univ holds : sProp 𝕄) := by
  rw [toks_sorted, ← bigSep_sep']
  refine mono_of fun c _ => ?_
  unfold holds
  iintro ⟨Ha, Ht⟩
  isplitl [Ha]; · iexact Ha
  iapply (toks_of (F := F) c); iexact Ht

end shuffle

/-! ## The invariants -/

/-- What the launch element gives device `c`. -/
def G (c : Dev nD) : sProp 𝕄 :=
  iprop((bigSep Finset.univ fun k : Cl => roundState ER (sched m ρ) (kcell (c, k)) 0)
    ∗ (bigSep Finset.univ fun k : Cl => atPos ER (kcell (c, k)) 0 ∅ 0) ∗ (bigSep Finset.univ fun k : Cl => reached ER (kcell (c, k)) 0)
    ∗ bigSep Finset.univ fun k : Cl => cellToks (c, k))

/-- The invariants and the rounds reached, which every device may use. -/
def records (K : Dev nD × Cl → ℕ) : sProp 𝕄 :=
  iprop((bigSep Finset.univ fun ck : Dev nD × Cl => cellInv ER (sched m ρ) (K ck) (kcell ck))
    ∗ bigSep Finset.univ fun ck : Dev nD × Cl => reached ER (kcell ck) 0)

instance records_persistent (K : Dev nD × Cl → ℕ) : BI.Persistent (records (F := F) m ρ K) := by unfold records; infer_instance

/-- What a device has of it once the invariants stand. -/
def G' (c : Dev nD) : sProp 𝕄 := iprop(∃ K, records m ρ K ∗ holds c)

omit [FloatOps F] in
theorem by_cell (Φ : GSem nD τ sig → sProp 𝕄) :
    bigSep exCells Φ = bigSep Finset.univ fun c : Dev nD => bigSep Finset.univ fun k : Cl => Φ (kcell (c, k)) := by
  unfold exCells; rw [bigSep_map, bigSep_univ_prod]; rfl
omit [FloatOps F] in
theorem by_token :
    (bigSep exToks fun x => (dutyTok ER x.1 x.2.1 x.2.2 : sProp 𝕄))
      = bigSep Finset.univ fun c : Dev nD => bigSep Finset.univ fun k : Cl => cellToks (c, k) := by
  unfold exToks cellToks; rw [bigSep_map, bigSep_univ_prod, bigSep_univ_prod]; rfl

omit [FloatOps F] in
theorem fund_exchange : BI.own (ER (initOf exCells exToks)) ⊢ (|==> bigSep Finset.univ (G m ρ) : sProp 𝕄) := by
  iintro HX
  imod (Rounds.fund ER (sched m ρ) exCells exToks) $$ HX with ⟨Hst, Hr, Hat, Htok⟩
  imodintro
  ihave Hst := (Entails.of_eq (by_cell (F := F) fun g => roundState ER (sched m ρ) g 0)) $$ Hst
  ihave Hat := (Entails.of_eq (by_cell (F := F) fun g => atPos ER g 0 ∅ 0)) $$ Hat
  ihave Hr := (Entails.of_eq (by_cell (F := F) fun g => reached ER g 0)) $$ Hr
  ihave Htok := (Entails.of_eq (by_token (F := F))) $$ Htok
  unfold G; simp only [bigSep_sep']
  isplitl [Hst]; · iexact Hst
  isplitl [Hat]; · iexact Hat
  isplitl [Hr]; · iexact Hr
  iexact Htok

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: the barrier's, and the kernel's own. -/
theorem sems0_eq (c : Dev nD) :
    (bigSep Finset.univ fun k : Cl => (semVal (kcell (c, k)) 0 : sProp 𝕄))
      = iprop(unscopedSems0 c ∗ Pipeline.ownSems0 (Ix := Unit) (Name := ℕ) (U := UU) (Lvl := ℕ) (Val := Elt F) (τ := τ) osem c) := by
  rw [unscopedSems0_eq, opt (F := F)]; rfl

omit [FloatOps F] in
/-- One device's invariants. -/
theorem invs_at (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cl => iprop(∃ κ : ℕ, cellInv ER (sched m ρ) κ (kcell (c, k))))
          ∗ (bigSep Finset.univ fun k : Cl => atPos ER (kcell (c, k)) 0 ∅ 0) ∗ (bigSep Finset.univ fun k : Cl => reached ER (kcell (c, k)) 0)
          ∗ bigSep Finset.univ fun k : Cl => cellToks (c, k)) := by
  unfold G
  iintro ⟨Ho, Hu, Hst, Hrest⟩
  imod (show iprop((bigSep Finset.univ fun k : Cl => semVal (kcell (c, k)) 0) ∗ bigSep Finset.univ fun k : Cl => roundState ER (sched m ρ) (kcell (c, k)) 0)
      ⊢ (|={Set.univ}=> bigSep Finset.univ fun k : Cl => iprop(∃ κ : ℕ, cellInv ER (sched m ρ) κ (kcell (c, k))) : sProp 𝕄) from by
        rw [← bigSep_sep']
        exact (mono_of fun k _ => (Rounds.body_intro ER (sched m ρ) (kcell (c, k))).trans inv_alloc).trans (bigSep_fupd _ _)) $$ [Ho Hu Hst] with Hinv
  · isplitr [Hst]
    · iapply (Entails.of_eq (sems0_eq (F := F) c).symm)
      isplitl [Hu]; · iexact Hu
      iexact Ho
    · iexact Hst
  imodintro
  isplitl [Hinv]; · iexact Hinv
  iexact Hrest

omit [FloatOps F] in
/-- Something every device may use, given to each. -/
theorem give_each {R : sProp 𝕄} [BI.Persistent R] (Φ : Dev nD → sProp 𝕄) {Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact mono_of fun c _ => h c

omit [FloatOps F] in
/-- The devices' invariants put together and given to all, the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  refine ((mono_of fun c _ => invs_at m ρ c).trans (bigSep_fupd _ _)).trans (BI.fupd_mono ?_)
  rw [bigSep_sep', bigSep_sep', bigSep_sep', ← bigSep_univ_prod (fun ck : Dev nD × Cl => iprop(∃ κ : ℕ, cellInv ER (sched m ρ) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (sched m ρ) κ (kcell ck) : sProp 𝕄))) $$ HI
  icases HK with ⟨%K, #HI⟩
  iapply (give_each (R := records m ρ K) holds (Ψ := G' m ρ) fun c => by
    unfold G'
    iintro ⟨#H, Hh⟩
    iexists K
    isplitr; · iexact H
    iexact Hh)
  isplitr
  · unfold records; isplitr; · iexact HI
    iexact HR
  · iapply (toks_dealt (F := F))
    isplitl [Hat]; · iexact Hat
    iexact Htok

/-! ## The credit -/

theorem cell_iff (c d : Dev nD) (k l : Cl) : kcell (c, k) = kcell (d, l) ↔ c = d ∧ k = l :=
  ⟨fun h => ⟨congrArg Prod.fst (kcell_injective h), congrArg Prod.snd (kcell_injective h)⟩, fun h => by rw [h.1, h.2]⟩

theorem tally_cell (c d : Dev nD) (k l : Cl) (n : ℕ) :
    (tallyAt (kcell (d, l)) () n : CellTallies nD τ sig Unit) (kcell (c, k)) () = if c = d ∧ k = l then n else 0 := by
  rw [tallyAt_apply]
  by_cases h : c = d ∧ k = l
  · rw [if_pos h, if_pos ⟨(cell_iff c d k l).2 h, rfl⟩]
  · rw [if_neg h, if_neg fun h' => h ((cell_iff c d k l).1 h'.1)]

/-- What device `d` owes a cell for its transfers. -/
theorem owS_cell (d c : Dev nD) (k : Cl) (ks : List (Fin 8)) :
    owS d ks (kcell (c, k)) () = (ks.map fun q => (if c = nxt q d ∧ k = some (some (false, true, d)) then Nw else 0)
      + if c = nxt q d ∧ k = some (some (true, true, d)) then Nc else 0).sum := by
  induction ks with
  | nil => rfl
  | cons q ks ih =>
    rw [List.map_cons, List.sum_cons, ← ih]
    rw [show owS d (q :: ks) = (owS d ks + tallyAt (arrCell false true d (nxt q d)) () Nw) + tallyAt (arrCell true true d (nxt q d)) () Nc from rfl]
    rw [Pi.add_apply, Finsupp.add_apply, Pi.add_apply, Finsupp.add_apply, ← arr_eq, ← arr_eq, tally_cell, tally_cell]
    omega

/-- and for its words. -/
theorem owB_cell (d c : Dev nD) (k : Cl) (ks : List (Fin 8)) :
    owB d ks (kcell (c, k)) () = (ks.map fun q => if c = nxt q d ∧ k = none then 1 else 0).sum + owS d places (kcell (c, k)) () := by
  induction ks with
  | nil => rw [List.map_nil, List.sum_nil, Nat.zero_add]; rfl
  | cons q ks ih =>
    rw [List.map_cons, List.sum_cons, Nat.add_assoc, ← ih]
    rw [show owB d (q :: ks) = owB d ks + tallyAt (barCell (nxt q d)) () 1 from rfl]
    rw [Pi.add_apply, Finsupp.add_apply, ← bar_eq, tally_cell, Nat.add_comm]

/-- What the cell is due: from each other device a word, or from one device a slot. -/
def due (c : Dev nD) : Cl → ℕ
  | none => 7
  | some (some (true, true, j)) => if j = c then 0 else Nc
  | some (some (false, true, j)) => if j = c then 0 else Nw
  | _ => 0

theorem words_due (c : Dev nD) : (∑ d : Dev nD, (places.map fun q => if c = nxt q d then 1 else 0).sum) = 7 := by revert c; decide
theorem slots_due (c j : Dev nD) : (∑ d : Dev nD, (places.map fun q => if c = nxt q d ∧ j = d then 1 else 0).sum) = if j = c then 0 else 1 := by
  revert c j; decide
theorem slots_due_mul (n : ℕ) (c j : Dev nD) :
    (∑ d : Dev nD, (places.map fun q => if c = nxt q d ∧ j = d then n else 0).sum) = if j = c then 0 else n := by
  have h : ∀ d : Dev nD, (places.map fun q => if c = nxt q d ∧ j = d then n else 0).sum = (places.map fun q => if c = nxt q d ∧ j = d then 1 else 0).sum * n := fun d => by
    rw [← List.sum_map_mul_right]
    congr 2; funext q; split <;> simp
  rw [Finset.sum_congr rfl fun d _ => h d, ← Finset.sum_mul, slots_due]
  split <;> simp

theorem due_eq (c : Dev nD) (k : Cl) : (∑ d : Dev nD, O₀ d (kcell (c, k)) ()) = due c k := by
  have h : ∀ d, O₀ d (kcell (c, k)) () = _ := fun d => (owB_cell d c k places).trans (by rw [owS_cell d c k places])
  rw [Finset.sum_congr rfl fun d _ => h d]
  rcases k with _ | _ | ⟨t, r, j⟩
  · simpa [due] using words_due c
  · simp [due]
  · cases r
    · simp [due]
    · cases t
      · simpa [due] using slots_due_mul Nw c j
      · simpa [due] using slots_due_mul Nc c j

theorem credit_eq (c : Dev nD) (k : Cl) :
    tallyOn (kcell (c, k)) (launchCredit (Pipeline.owing O₀) 0 (kcell (c, k))) = (tallyAt (kcell (c, k)) () (due c k) : CellTallies nD τ sig Unit) := by
  unfold tallyAt; refine congrArg _ (Finsupp.ext fun u => ?_); cases u
  rw [Pipeline.launchCredit_owing, Finsupp.single_eq_same, due_eq]

omit [FloatOps F] in
theorem cred_if (g : GSem nD τ sig) (p : Prop) [Decidable p] (n : ℕ) :
    (cred (tallyAt g () (if p then 0 else n)) : sProp 𝕄) ⊢ iprop(if p then emp else cred (tallyAt g () n)) := by
  split
  · iintro -; iempintro
  · exact Entails.of_eq rfl

omit [FloatOps F] in
/-- The credit device `c` starts with. -/
theorem creds (c : Dev nD) : (Pipeline.launchCred O₀ c : sProp 𝕄) ⊢ iprop(cred (tallyAt (barCell c) () 7) ∗ arrivals c) := by
  unfold Pipeline.launchCred arrivals
  refine (bigSep_subset (Finset.subset_univ (Finset.univ.map ⟨csem, csem_injective⟩))).trans ?_
  rw [bigSep_map]
  refine (show _ ⊢ (bigSep Finset.univ fun k : Cl => (cred (tallyAt (kcell (c, k)) () (due c k)) : sProp 𝕄)) from
    mono_of fun k _ => Entails.of_eq (congrArg cred (credit_eq c k))).trans ?_
  rw [kinds (F := F)]
  iintro ⟨Hb, -, ⟨-, Hw⟩, -, Hc⟩
  isplitl [Hb]; · iexact Hb
  isplitl [Hc]
  · iapply (mono_of (S := Finset.univ) fun (j : Fin 8) _ => cred_if (F := F) (arrCell true true j c) (j = c) Nc); iexact Hc
  · iapply (mono_of (S := Finset.univ) fun (j : Fin 8) _ => cred_if (F := F) (arrCell false true j c) (j = c) Nw); iexact Hw

end Cert.KernelIdealRun

end
-- ==== Proof.KernelIdealRun.lean ====
/-
# The run

The body and the launch put together: every fair run of the eight devices ends, with the result array as the body
leaves it, the arguments as they were and every semaphore at zero.
-/
module

public import proofs.«01_k».proof.Proof.KernelIdealLaunch
public import proofs.«01_k».proof.Proof.Gen.KernelIdeal.Points
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows -/

/-- The point. -/
abbrev t₀ : Fin cfg0.N := t0_0

/-- What a device holds between the launch and its body. -/
def start (c : Dev nD) : sProp 𝕄 := iprop(∃ K, ctx m ρ K ∗ atStart c)
def Φ₀ (c : Dev nD) : sProp 𝕄 :=
  iprop(start m ρ c ∗ (∃ f, (((c : Thread nD τ).loc cc0_scratch0) ↦{fullShare} f)) ∗ (∃ f, (((c : Thread nD τ).loc cc0_scratch1) ↦{fullShare} f)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => atEnd c
  q _ := fullShare
  owed t := match t with
    | ⟨0, _⟩ => O₀ c
    | ⟨_ + 1, _⟩ => 0

theorem fetch_in (t : Fin cfg0.N) : (cfg0.win (0 : Fin 4)).fetch t = true ∧ (cfg0.win (1 : Fin 4)).fetch t = true ∧ (cfg0.win (2 : Fin 4)).fetch t = true := by
  rw [fin_N0 t]; exact ⟨rfl, rfl, rfl⟩

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(atEnd c ∗ (dats m ρ 0 c).owesAt () t₀.succ
    ∗ stg c cc0_stg0_0 (xstg m ρ c) ∗ stg c cc0_stg1_0 (rstg m ρ c) ∗ stg c cc0_stg2_0 (wstg m ρ c) ∗ stg c cc0_stg3_0 (outAt m ρ c))

omit [FloatOps F] in
theorem stg_of (c : Dev nD) (b : Ref sig .tc) (X : b.ty.Contents (Elt F)) : (((c : Thread nD τ).loc b) ↦{fullShare} X) ⊢ (stg c b X : sProp 𝕄) := by
  iintro H; iexists X; isplitr
  · ipureintro; rfl
  · iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) (Memref.whole cc0_scratch1) (Memref.isWhole_whole _)
      cc0_scratch2 cc0_scratch3 cc0_scratch4 cc0_scratch5 cc0_scratch6) (fun _ => bodyPost m ρ c)
  unfold bodyPre Φ₀ start
  iintro ⟨⟨⟨%K, Hctx, Hst⟩, Hs0, Hs1⟩, Ho, ⟨%d0, %g0, %hg0, Hx⟩, ⟨%d1, %g1, %hg1, Hr⟩, ⟨%d2, %g2, %hg2, Hw⟩, ⟨%d3, %g3, %hg3, Hout⟩⟩
  have h0 : g0 = xstg m ρ c := by rw [hg0]; unfold Dat.before; rw [if_pos (fetch_in t₀).1]; rfl
  have h1 : g1 = rstg m ρ c := by rw [hg1]; unfold Dat.before; rw [if_pos (fetch_in t₀).2.1]; rfl
  have h2 : g2 = wstg m ρ c := by rw [hg2]; unfold Dat.before; rw [if_pos (fetch_in t₀).2.2]; rfl
  subst h0 h1 h2
  unfold Dat.owesAt Pipeline.owesWithin
  icases Ho with ⟨%W, %hW, HO⟩
  iapply (body_run m ρ K c) $$ [Hctx Hst Hs0 Hs1 HO Hx Hr Hw Hout]
  · isplitl [Hctx]; · iexact Hctx
    isplitl [HO]
    · unfold ow; iexists W; iexact HO
    isplitl [Hst]; · iexact Hst
    isplitl [Hs0]; · iexact Hs0
    isplitl [Hs1]; · iexact Hs1
    isplitl [Hx]; · iexact Hx
    isplitl [Hr]; · iexact Hr
    isplitl [Hw]; · iexact Hw
    iexists g3; iexact Hout
  iintro ⟨HO, Hend, Hx, Hr, Hw, Hout⟩
  unfold bodyPost ow Dat.owesAt Pipeline.owesWithin
  icases HO with ⟨%W', HO⟩
  isplitl [Hend]; · iexact Hend
  isplitl [HO]
  · iexists W'
    isplitr; · ipureintro; exact fun _ _ => Or.inl trivial
    iexact HO
  isplitl [Hx]; · iapply (stg_of (F := F) c cc0_stg0_0); iexact Hx
  isplitl [Hr]; · iapply (stg_of (F := F) c cc0_stg1_0); iexact Hr
  isplitl [Hw]; · iapply (stg_of (F := F) c cc0_stg2_0); iexact Hw
  iapply (stg_of (F := F) c cc0_stg3_0); iexact Hout

/-! ## The side conditions -/

theorem share_eq (c : Dev nD) (w : Fin cfg0.W) : (dats m ρ 0 c).share w = fullShare := by unfold Dat.share; split <;> rfl

omit [FloatOps F] in
/-- The argument no window stages is set aside; the rest goes to the body. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ (((c : Thread nD τ).loc main_arg1) ↦{fullShare} m ((c : Thread nD τ).loc main_arg1))) := by
  rw [Pipeline.unscopedRestP_none]
  iintro ⟨Hu, #Hlev, Hcr, -, HG⟩
  ihave Hu := (Entails.of_eq (unscopedRest0_eq c fun b => m ((c : Thread nD τ).loc b))) $$ Hu
  ihave Hc := (creds (F := F) c) $$ Hcr
  icases Hc with ⟨Hb, Ha⟩
  unfold G' holds records
  icases HG with ⟨%K, ⟨HI, HR⟩, Hat, Hy, Hd⟩
  imodintro
  isplitr [Hu]
  · unfold start ctx atStart
    iexists K
    isplitl [HI HR]
    · isplitl [HI]; · iexact HI
      isplitl [HR]; · iexact HR
      iexact Hlev
    isplitl [Hb]; · iexact Hb
    isplitl [Hat]; · iexact Hat
    isplitl [Hy]; · iexact Hy
    isplitl [Hd]; · iexact Hd
    iexact Ha
  · iexact Hu

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd c from rfl, scopedRest0_eq]
  unfold atEnd
  iintro ⟨Hs0, Hs1, Hz⟩
  ihave Hz := (Entails.of_eq (sems0_eq (F := F) c)) $$ Hz
  icases Hz with ⟨Hu, Ho⟩
  isplitl [Hu]; · iexact Hu
  isplitl [Ho]; · iexact Ho
  isplitl [Hs0]; · iexact Hs0
  iexact Hs1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
/-- What the final state says of what no window holds: the unscoped semaphores are at zero, the unstaged argument is as it was. -/
theorem read_end (c : Dev nD) (s' : Phys nD τ sig (Elt F)) :
    iprop(unscopedSems0 c ∗ (((c : Thread nD τ).loc main_arg1) ↦{fullShare} m ((c : Thread nD τ).loc main_arg1)) ∗ SI s')
      ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  iintro ⟨Hu, Ha, HSI⟩
  ihave %h := (SI_pointsTo_agree (st := s')) $$ [HSI Ha]
  · isplitl [HSI]; · iexact HSI
    iexact Ha
  imod (Pipeline.unscopedSems0_read (X := unscopedSems0 c) (c := c) fupd_intro s') $$ [Hu HSI] with ⟨%hz, HSI⟩
  · isplitl [Hu]; · iexact Hu
    iexact HSI
  imodintro
  isplitr
  · ipureintro; exact ⟨hz, funext fun i => h i (Finset.mem_univ i)⟩
  · iexact HSI

/-! ## The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- Every fair run of the eight devices, from any memory with every counter zero, ends with the windows' arrays as
    computed, the unstaged argument as it was and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun c => iprop(((c : Thread nD τ).loc main_arg1) ↦{fullShare} m ((c : Thread nD τ).loc main_arg1)))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨fun w => (h c).1 w, (h c).2.2.2⟩, sem_eq_zero hs fun c => (h c).2.2.1⟩)

/-- A staged argument is as it was. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

omit [FloatOps F] in
/-- Each window is one block, the whole array. -/
theorem x_block (f : (main_arg0 : Ref sig .tc).ty.Contents (Elt F)) : (win0_0.blk (0 : Fin 1)).view.read (Elt F) f = f :=
  funext fun i => congrArg f (funext fun a => Fin.ext (by fin_cases a <;> exact (Nat.zero_add _).trans (Nat.one_mul _)))
omit [FloatOps F] in
theorem r_block (f : (main_arg2 : Ref sig .tc).ty.Contents (Elt F)) : (win0_1.blk (0 : Fin 1)).view.read (Elt F) f = f :=
  funext fun i => congrArg f (funext fun a => Fin.ext (by fin_cases a <;> exact (Nat.zero_add _).trans (Nat.one_mul _)))
omit [FloatOps F] in
theorem w_block (f : (main_arg3 : Ref sig .tc).ty.Contents (Elt F)) : (win0_2.blk (0 : Fin 1)).view.read (Elt F) f = f :=
  funext fun i => congrArg f (funext fun a => Fin.ext (by fin_cases a <;> exact (Nat.zero_add _).trans (Nat.one_mul _)))
omit [FloatOps F] in
theorem o_block (t : Fin cfg0.N) (f : (main_v1 : Ref sig .tc).ty.Contents (Elt F)) : ((cfg0.win (3 : Fin 4)).blk t).view.read (Elt F) f = f := by
  rw [fin_N0 t]
  exact funext fun i => congrArg f (funext fun a => Fin.ext (by fin_cases a <;> exact (Nat.zero_add _).trans (Nat.one_mul _)))

omit [FloatOps F] in
theorem x_staged (c : Dev nD) : xstg m ρ c = m ((c : Thread nD τ).loc main_arg0) := x_block _
omit [FloatOps F] in
theorem r_staged (c : Dev nD) : rstg m ρ c = m ((c : Thread nD τ).loc main_arg2) := r_block _
omit [FloatOps F] in
theorem w_staged (c : Dev nD) : wstg m ρ c = m ((c : Thread nD τ).loc main_arg3) := w_block _

theorem o_cover (i : S256x256.Idx) : ∃ t : Fin cfg0.N, (cfg0.win (3 : Fin 4)).flush t = true ∧ i ∈ ((cfg0.win (3 : Fin 4)).blk t).view.set := by
  refine ⟨t0_0, flush0_3 _, ?_⟩
  show i ∈ ((View.whole main_v1).slice (win0_3.rect t0_0)).set
  rw [View.set_slice_whole, Rect.mem_set_unit]
  intro a
  fin_cases a
  · exact ⟨Nat.zero_le _, (i 0).isLt⟩
  · exact ⟨Nat.zero_le _, (i 1).isLt⟩

/-- The result array ends as the body leaves its block. -/
theorem finalA_out (c : Dev nD) : finalA m ρ c (3 : Fin 4) = outAt m ρ c :=
  (dats m ρ 0 c).arrAt_eq_of_cover 3 (outAt m ρ c) (fun t _ => (o_block t _).symm) o_cover

/-- The run, with the result and the arguments by name. -/
theorem run_named : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 3).trans (finalA_out m ρ c), ((h.1 c).1 0).trans (finalA_in m ρ c 0 rfl), (h.1 c).2,
    ((h.1 c).1 1).trans (finalA_in m ρ c 1 rfl), ((h.1 c).1 2).trans (finalA_in m ρ c 2 rfl)⟩, h.2⟩) (run_main m ρ)

end Cert.KernelIdealRun

end
-- ==== Proof.Counts.lean ====
/-
# Counting tokens

The places tokens take on an expert, counted two ways: over the whole batch, or as the counts of the devices before and
the tokens up to one's own. Counts are kept as 32-bit words and as numbers; below 2³¹ the two agree.
-/
module

public import Idealize.ShloMosaic.Lib.Pointwise
public import Idealize.ShloMosaic.Lib.WordSum

@[expose] public section

noncomputable section

namespace Cert.Counts

open Idealize.ShloMosaic

/-! ## Words that hold counts -/

/-- One where `p` holds, zero elsewhere. -/
abbrev ind (p : Prop) [Decidable p] : ℕ := if p then 1 else 0

theorem fold_word {ι : Type} (s : Finset ι) (f : ι → ℕ) :
    s.fold IntOp.addi 0#32 (fun x => BitVec.ofNat 32 (f x)) = BitVec.ofNat 32 (∑ x ∈ s, f x) := by
  induction s using Finset.cons_induction with
  | empty => rfl
  | cons a s ha ih => rw [Finset.fold_cons, ih, Finset.sum_cons, BitVec.ofNat_add]; rfl

theorem toInt_word {n : ℕ} (h : n < 2 ^ 31) : (BitVec.ofNat 32 n).toInt = n := by
  rw [BitVec.toInt_ofNat']
  simp only [Int.bmod]
  omega

theorem slt_word {a b : ℕ} (ha : a < 2 ^ 31) (hb : b < 2 ^ 31) :
    IntOp.cmpi .slt (BitVec.ofNat 32 a) (BitVec.ofNat 32 b) = BitVec.ofBool (decide (a < b)) := by
  show BitVec.ofBool (decide _) = _
  rw [toInt_word ha, toInt_word hb]
  exact congrArg BitVec.ofBool (decide_eq_decide.2 Nat.cast_lt)

theorem sle_word {a b : ℕ} (ha : a < 2 ^ 31) (hb : b < 2 ^ 31) :
    IntOp.cmpi .sle (BitVec.ofNat 32 a) (BitVec.ofNat 32 b) = BitVec.ofBool (decide (a ≤ b)) := by
  show BitVec.ofBool (decide _) = _
  rw [toInt_word ha, toInt_word hb]
  exact congrArg BitVec.ofBool (decide_eq_decide.2 Nat.cast_le)

theorem eq_word (a b : BitVec 32) : IntOp.cmpi .eq a b = BitVec.ofBool (decide (a = b)) := by
  show BitVec.ofBool (a == b) = _
  exact congrArg BitVec.ofBool (by rw [Bool.eq_iff_iff]; simp)

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

theorem wide_bit (p : Prop) [Decidable p] : (BitVec.ofBool (decide p)).setWidth 32 = BitVec.ofNat 32 (ind p) := by
  by_cases hp : p <;> simp [ind, hp]

theorem select_bit {α : Type} (p : Prop) [Decidable p] (a b : α) :
    Scalar.select (BitVec.ofBool (decide p)) a b = if p then a else b := by
  by_cases hp : p <;> simp [Scalar.select, hp]

theorem mul_words (p q : Prop) [Decidable p] [Decidable q] :
    IntOp.muli (BitVec.ofNat 32 (ind p)) (BitVec.ofNat 32 (ind q)) = BitVec.ofNat 32 (ind (p ∧ q)) := by
  by_cases hp : p <;> by_cases hq : q <;> simp [ind, hp, hq] <;> rfl

/-- A word that holds a count is that count. -/
theorem count_ideal (φ : FTy) {n : ℕ} (h : n < 2 ^ 31) : (FloatOps.sitofp φ (BitVec.ofNat 32 n) : Ideal φ) = ((n : ℕ) : EReal) := by
  show (((BitVec.ofNat 32 n).toInt : ℝ) : EReal) = _
  rw [toInt_word h]
  norm_cast

theorem ind_lt (p : Prop) [Decidable p] : ind p < 2 ^ 31 := by unfold ind; split <;> norm_num

theorem sum_ind_le {n : ℕ} (p : Fin n → Prop) [DecidablePred p] : ∑ x, ind (p x) ≤ n := by
  refine (Finset.sum_le_sum (g := fun _ => 1) fun x _ => ?_).trans (by simp)
  unfold ind; split <;> omega

theorem capacity_ideal : Ideal.ofBits .f32 1120665600#32 = ((102 : ℕ) : EReal) := by
  rw [show ((102 : ℕ) : EReal) = ((102 : ℝ) : EReal) by norm_cast]
  simp [Ideal.ofBits, Ideal.ieee, -EReal.coe_mul]; norm_num

/-! ## The batch by devices -/

/-- Token `i` of device `j` in the whole batch. -/
def tok (j : Fin 8) (i : Fin 256) : Fin 2048 := ⟨j.val * 256 + i.val, by have := j.isLt; have := i.isLt; omega⟩

theorem sum_tok (f : Fin 2048 → ℕ) : ∑ n, f n = ∑ j, ∑ i, f (tok j i) := by
  rw [← Finset.sum_product', Finset.univ_product_univ]
  refine (Fintype.sum_equiv (finProdFinEquiv (m := 8) (n := 256)) _ _ fun p => ?_).symm
  refine congrArg f (Fin.ext ?_)
  show p.1.val * 256 + p.2.val = p.2.val + 256 * p.1.val
  omega

variable (R : Fin 2048 → BitVec 32)

/-- The tokens before `n` on the same expert. -/
def before (n : Fin 2048) : ℕ := ∑ k, ind (R n = R k ∧ k < n)

/-- How many of device `j`'s tokens are on expert `e`. -/
def onDevice (e : BitVec 32) (j : Fin 8) : ℕ := ∑ k, ind (R (tok j k) = e)

/-- How many of device `j`'s tokens up to the `i`-th are on expert `e`. -/
def upTo (e : BitVec 32) (j : Fin 8) (i : Fin 256) : ℕ := ∑ k : Fin 256, ind (k ≤ i ∧ R (tok j k) = e)

theorem before_le (n : Fin 2048) : before R n ≤ 2048 := sum_ind_le _
theorem onDevice_le (e : BitVec 32) (j : Fin 8) : onDevice R e j ≤ 256 := sum_ind_le _
theorem upTo_le (e : BitVec 32) (j : Fin 8) (i : Fin 256) : upTo R e j i ≤ 256 := sum_ind_le _

/-- One more than the tokens before: the token itself counted. -/
theorem before_succ (n : Fin 2048) : before R n + 1 = ∑ k, ind (R k = R n ∧ k ≤ n) := by
  have h : (1 : ℕ) = ∑ k, ind (k = n) := by simp [ind]
  rw [h, before, ← Finset.sum_add_distrib]
  refine Finset.sum_congr rfl fun k _ => ?_
  rcases lt_trichotomy k n with hk | hk | hk
  · simp [ind, hk, hk.ne, hk.le, eq_comm]
  · subst hk; simp [ind]
  · simp [ind, hk.not_gt, hk.ne', hk.not_ge]

/-- The place of a token on its expert: the counts of the devices before its own, and its own device's tokens up to it. -/
theorem place (c : Fin 8) (i : Fin 256) :
    (∑ j, if j < c then onDevice R (R (tok c i)) j else 0) + upTo R (R (tok c i)) c i = before R (tok c i) + 1 := by
  have h : upTo R (R (tok c i)) c i = ∑ j, if j = c then upTo R (R (tok c i)) c i else 0 := by simp
  rw [h, ← Finset.sum_add_distrib, before_succ, sum_tok]
  refine Finset.sum_congr rfl fun j _ => ?_
  have hi := i.isLt
  have hle (k : Fin 256) : tok j k ≤ tok c i ↔ j < c ∨ j = c ∧ k ≤ i := by
    have hk := k.isLt
    simp only [Fin.le_def, Fin.lt_def, Fin.ext_iff, tok]
    omega
  simp only [hle]
  rcases lt_trichotomy j c with hj | hj | hj
  · simp [hj, hj.ne, onDevice]
  · subst hj; simp [upTo, and_comm]
  · simp [hj.not_gt, hj.ne', ind]

end Cert.Counts

end
-- ==== Proof.RefValue.lean ====
/-
# What the reference computes

Read at a token and an output column: the sum over the experts of the token's products with the expert's matrix, for the
expert that the token chose and where it has a place; zero elsewhere.
-/
module

public import proofs.«01_k».proof.Proof.Gen.ReferenceIdeal
public import proofs.«01_k».proof.Proof.Gen.ReferenceIdeal.Run
public import proofs.«01_k».proof.Proof.Counts

@[expose] public section

noncomputable section

namespace Cert.RefValue

open Cert.ReferenceIdeal Cert.ReferenceIdeal.Gen Cert.Counts
open Idealize.ShloMosaic Idealize.SL.Sem
open Idealize.ShloMosaic.TcCoe

/-- The reference's result from its inputs. -/
def refOut (x : FVec Ideal S2048x128 .bf16) (r : IVec S2048x1 32) (w : FVec Ideal S16x128x256 .bf16) : FVec Ideal S2048x256 .f32 :=
  Host.reduceAdd (select (broadcastInDim S2048x16x256 ![0, 1, 2] bcast_S2048x16x1_S2048x16x256_0_1_2 (broadcastInDim S2048x16x1 ![0, 1] bcast_S2048x16_S2048x16x1_0_1 (andi (cmpi .eq (broadcastInDim S2048x16 ![0, 1] bcast_S2048x1_S2048x16_0_1 (broadcastInDim S2048x1 ![0] bcast_S2048_S2048x1_0 (shapeCast _ r shapeCasts_S2048x1_S2048))) (broadcastInDim S2048x16 ![0, 1] bcast_S1x16_S2048x16_0_1 (broadcastInDim S1x16 ![1] bcast_S16_S1x16_1 (iotaInDim S16 32 0)))) (broadcastInDim S2048x16 ![0, 1] bcast_S2048x1_S2048x16_0_1 (broadcastInDim S2048x1 ![0] bcast_S2048_S2048x1_0 (cmpi .slt (Host.reduce IntOp.addi (extui 32 (andi (cmpi .eq (broadcastInDim S2048x2048 ![0, 1] bcast_S2048x1_S2048x2048_0_1 (broadcastInDim S2048x1 ![0] bcast_S2048_S2048x1_0 (shapeCast _ r shapeCasts_S2048x1_S2048))) (broadcastInDim S2048x2048 ![0, 1] bcast_S1x2048_S2048x2048_0_1 (broadcastInDim S1x2048 ![1] bcast_S2048_S1x2048_1 (shapeCast _ r shapeCasts_S2048x1_S2048)))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) natLt_1_32) (constantI S_ 32 0#32) reducesTo_S2048x2048_S2048_d1 h_S_) (broadcastInDim S2048 ![] bcast_S_S2048 (constantI S_ 32 102#32)))))))) (Host.dotGeneral dot_S2048x128_S16x128x256_S2048x16x256_1_1_0_02_n_n none (extf .f32 x bitsLt_bf16_f32) (extf .f32 w bitsLt_bf16_f32)) (broadcastInDim S2048x16x256 ![] bcast_S_S2048x16x256 (id (constant S_ .f32 0x00000000#32)))) (constant S_ .f32 0x00000000#32) reducesTo_S2048x16x256_S2048x256_d1 h_S_

/-- Device 0's run of the reference. -/
theorem run_zero (m : (ℓ : Loc nD τ sig) → Buf (Elt Ideal) ℓ) (ρ : Dev nD → PrngReg) :
    θ_run defs (onTc (τ := τ) (main (F := Ideal))) ⟨m, fun _ => 0, ρ⟩ (fun r =>
      r.2.mem (((0 : Dev nD).tc : Thread nD τ).loc main_v31) = refOut (m (((0 : Dev nD).tc : Thread nD τ).loc main_arg0))
        (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)) :=
  (θ_run defs _ _).mono (fun _ h => h 0) (Value.run (F := Ideal) m ρ)

theorem refOut_at (x : FVec Ideal S2048x128 .bf16) (r : IVec S2048x1 32) (w : FVec Ideal S16x128x256 .bf16) (n : Fin 2048) (h : Fin 256) :
    refOut x r w (ix2 n h) = ∑ e : Fin 16, if r (ix2 n 0) = BitVec.ofNat 32 e.val ∧ before (fun k => r (ix2 k 0)) n < 102
      then ∑ d : Fin 128, x (ix2 n d) * w (ix3 e d h) else 0 := by
  have hb : (Finset.univ : Finset (Fin 2048)).fold IntOp.addi 0#32 (fun k =>
      BitVec.setWidth 32 (IntOp.andi (IntOp.cmpi .eq (r (ix2 n 0)) (r (ix2 k 0))) (IntOp.cmpi .slt (BitVec.ofNat 32 k.val) (BitVec.ofNat 32 n.val))))
      = BitVec.ofNat 32 (before (fun k => r (ix2 k 0)) n) := by
    rw [before, ← fold_word]
    refine Finset.fold_congr fun k _ => ?_
    rw [eq_word, slt_word (by have := k.isLt; omega) (by have := n.isLt; omega), and_bits, wide_bit]
    rfl
  unfold refOut
  pointwise []
  refine Finset.sum_congr rfl fun e _ => ?_
  rw [hb, eq_word, slt_word (by have := before_le (fun k => r (ix2 k 0)) n; omega) (by norm_num), and_bits, select_bit]
  exact if_congr Iff.rfl rfl Ideal.ofBits_zero_f32

end Cert.RefValue

end
-- ==== Proof.Value.lean ====
/-
# What the kernel computes

Read at a token and an output column: the sum over the experts of the products of the token's inputs, times its keep
bit, with the expert's matrix. The keep bit is one where the token chose the expert and its place is within the capacity.
Device by device this is the reference's result.
-/
module

public import proofs.«01_k».proof.Proof.KernelIdealRun
public import proofs.«01_k».proof.Proof.RefValue

@[expose] public section

noncomputable section

namespace Cert.Value

open Cert.KernelIdeal Cert.KernelIdeal.Gen Cert.KernelIdealRun Cert.Counts
open Idealize.ShloMosaic
open Idealize.ShloMosaic.TcCoe

/-! ## The keep bits -/

/-- A token's word for an expert: one where it chose it. -/
theorem chose_at (r : Vec Ideal S256x1 .i32) (i : Fin 256) (e : Fin 128) :
    k0_pay1 (F := Ideal) r (ix2 i e) = BitVec.ofNat 32 (ind (r (ix2 i 0) = BitVec.ofNat 32 e.val)) := by
  pointwise [k0_pay1]
  rw [eq_word, wide_bit]

/-- A device's count for an expert. -/
theorem counts_at (r : Vec Ideal S256x1 .i32) (e : Fin 128) :
    k0_pay2 (F := Ideal) r (ix3 0 0 e) = BitVec.ofNat 32 (∑ k : Fin 256, ind (r (ix2 k 0) = BitVec.ofNat 32 e.val)) := by
  pointwise [k0_pay2]
  simp only [chose_at]
  exact fold_word _ _

/-- A token's keep bit: its words from the tokens of its device, the counts of all devices and the device's number. -/
theorem keep_at (t : IVec S256x128 32) (g : IVec S8x128 32) (b : IVec S8x128 1) (p : Fin 256 → Prop) [DecidablePred p] (a : Fin 8 → ℕ) (i : Fin 256) (e : Fin 128)
    (ht : ∀ k, t (ix2 k e) = BitVec.ofNat 32 (ind (p k)))
    (hg : ∀ j, Scalar.select (b (ix2 j e)) (g (ix2 j e)) 0#32 = BitVec.ofNat 32 (a j)) (ha : ∑ j, a j < 2 ^ 31) :
    k0_pay5 (F := Ideal) t g b (ix2 i e)
      = ((ind (p i ∧ ∑ j, a j + ∑ k : Fin 256, ind (k ≤ i ∧ p k) ≤ 102) : ℕ) : EReal) := by
  have hk (k : Fin 256) : (FloatOps.sitofp .f32 (BitVec.setWidth 32 (IntOp.cmpi .sle (BitVec.ofNat 32 k.val) (BitVec.ofNat 32 i.val))) : Ideal .f32)
      * (FloatOps.sitofp .bf16 (t (ix2 k e)) : Ideal .bf16) = ((ind (k ≤ i ∧ p k) : ℕ) : EReal) := by
    rw [ht, sle_word (by have := k.isLt; omega) (by have := i.isLt; omega), wide_bit, count_ideal _ (ind_lt _), count_ideal _ (ind_lt _)]
    by_cases h1 : k ≤ i <;> by_cases h2 : p k <;> simp [ind, h1, h2]
  pointwise [k0_pay5]
  simp only [hg, hk]
  rw [fold_word, count_ideal _ ha, capacity_ideal, ← Nat.cast_sum, ← Nat.cast_add]
  simp only [EReal.natCast_le_iff]
  rw [wide_bit, ht, mul_words, count_ideal _ (ind_lt _)]

variable (m : (ℓ : Loc nD τ sig) → Buf (Elt Ideal) ℓ) (ρ : Dev nD → PrngReg)

theorem myId_word (c : Dev nD) : myId c = BitVec.ofNat 32 c.val := by revert c; decide

theorem keepV_at (R : Fin 2048 → BitVec 32) (hR : ∀ (j : Dev nD) (k : Fin 256), rstg m ρ j (ix2 k 0) = R (tok j k)) (c : Dev nD) (i : Fin 256) (e : Fin 128) :
    keepV m ρ c (ix2 i e) = ((ind (R (tok c i) = BitVec.ofNat 32 e.val ∧ before R (tok c i) < 102) : ℕ) : EReal) := by
  refine (keep_at _ _ _ (fun k => R (tok c k) = BitVec.ofNat 32 e.val)
    (fun j : Fin 8 => if j < c then onDevice R (BitVec.ofNat 32 e.val) j else 0) i e (fun k => ?_) (fun j => ?_) ?_).trans ?_
  · rw [chose_at, hR]
  · have hb : k0_pay4 (myId c) (ix2 j e) = BitVec.ofBool (decide (j < c)) := by
      pointwise [k0_pay4]
      rw [myId_word, slt_word (by have := j.isLt; omega) (by have := c.isLt; simp [nD] at this ⊢; omega)]
      rfl
    have hg : k0_pay3 (F := Ideal) (GC m ρ) (ix2 j e) = BitVec.ofNat 32 (onDevice R (BitVec.ofNat 32 e.val) j) := by
      pointwise [k0_pay3]
      refine (counts_at (rstg m ρ j) e).trans ?_
      simp only [hR]
      rfl
    rw [hb, hg, select_bit]
    split <;> rfl
  · refine lt_of_le_of_lt (Finset.sum_le_sum (g := fun _ => 256) fun j _ => ?_) (by norm_num)
    split
    · exact onDevice_le _ _ _
    · omega
  · refine congrArg (fun n : ℕ => (n : EReal)) ?_
    by_cases h : R (tok c i) = BitVec.ofNat 32 e.val
    · have := place R c i
      rw [h] at this
      unfold upTo at this
      rw [this]
      simp only [ind, h, true_and, Nat.succ_le_iff]
    · simp [ind, h]

/-! ## The sum over the experts -/

/-- A device's inputs, and a matrix of the gathered table, entry by entry. -/
def xAt (c : Dev nD) (i : Fin 256) (d : Fin 128) : EReal := xstg m ρ c (ix2 i d)
def wAt (j : Dev nD) (s : Fin 2) (d : Fin 128) (h : Fin 256) : EReal := WL m ρ j s (ix4 0 0 d h)

/-- Expert `e`'s part of the result. -/
def part (c : Dev nD) (i h : Fin 256) (e : Fin 16) : EReal :=
  ∑ d : Fin 128, xAt m ρ c i d * keepV m ρ c (ix2 i ⟨e.val, by have := e.isLt; omega⟩)
    * wAt m ρ ⟨e.val / 2, by have := e.isLt; show e.val / 2 < 8; omega⟩ ⟨e.val % 2, by omega⟩ d h

theorem outAt_parts (c : Dev nD) (i h : Fin 256) : outAt m ρ c (ix2 i h) = ∑ e, part m ρ c i h e := by
  simp only [Fin.sum_univ_castSucc, Finset.univ_eq_empty, Finset.sum_empty, zero_add]
  unfold outAt acc3 acc2 acc1 acc0 col0 xV
  pointwise [k0_pay7, k0_pay8, k0_pay6, k0_pay9, k0_pay10, k0_pay11, k0_pay12, k0_pay13, k0_pay14, k0_pay15]
  rfl

theorem part_at (x : FVec Ideal Cert.ReferenceIdeal.S2048x128 .bf16) (r : IVec Cert.ReferenceIdeal.S2048x1 32) (w : FVec Ideal Cert.ReferenceIdeal.S16x128x256 .bf16)
    (hx : ∀ (j : Dev nD) (k : Fin 256) (d : Fin 128), xAt m ρ j k d = x (ix2 (tok j k) d))
    (hr : ∀ (j : Dev nD) (k : Fin 256), rstg m ρ j (ix2 k 0) = r (ix2 (tok j k) 0))
    (hw : ∀ (j : Dev nD) (s : Fin 2) (d : Fin 128) (h : Fin 256), wstg m ρ j (ix3 s d h) = w (ix3 (⟨j.val * 2 + s.val, by have := j.isLt; have := s.isLt; simp [nD] at *; omega⟩ : Fin 16) d h))
    (c : Dev nD) (i h : Fin 256) (e : Fin 16) :
    part m ρ c i h e = if r (ix2 (tok c i) 0) = BitVec.ofNat 32 e.val ∧ before (fun k => r (ix2 k 0)) (tok c i) < 102
      then ∑ d : Fin 128, x (ix2 (tok c i) d) * w (ix3 e d h) else 0 := by
  have hW (d : Fin 128) : wAt m ρ ⟨e.val / 2, by have := e.isLt; show e.val / 2 < 8; omega⟩ ⟨e.val % 2, by omega⟩ d h = w (ix3 e d h) := by
    refine (hw ⟨e.val / 2, by have := e.isLt; show e.val / 2 < 8; omega⟩ ⟨e.val % 2, by omega⟩ d h).trans ?_
    exact congrArg (fun e' => w (ix3 e' d h)) (Fin.ext (by show e.val / 2 * 2 + e.val % 2 = e.val; omega))
  unfold part
  rw [keepV_at m ρ (fun k => r (ix2 k 0)) hr]
  simp only [hW, hx]
  by_cases hk : r (ix2 (tok c i) 0) = BitVec.ofNat 32 e.val ∧ before (fun k => r (ix2 k 0)) (tok c i) < 102
  · simp only [ind, hk, and_self, if_true, Nat.cast_one, mul_one]
  · simp only [ind, hk, if_false, Nat.cast_zero, mul_zero, zero_mul, Finset.sum_const_zero]

/-- Device `c`'s block of the result is block `c` of the reference's. -/
theorem outAt_ref (x : FVec Ideal Cert.ReferenceIdeal.S2048x128 .bf16) (r : IVec Cert.ReferenceIdeal.S2048x1 32) (w : FVec Ideal Cert.ReferenceIdeal.S16x128x256 .bf16)
    (hx : ∀ c : Dev nD, m ((c : Thread nD τ).loc main_arg0) = Layout.block ⟨2, ![256, 128]⟩ ⟨2, ![2048, 128]⟩ 0 8 c x)
    (hr : ∀ c : Dev nD, m ((c : Thread nD τ).loc main_arg2) = Layout.block ⟨2, ![256, 1]⟩ ⟨2, ![2048, 1]⟩ 0 8 c r)
    (hw : ∀ c : Dev nD, m ((c : Thread nD τ).loc main_arg3) = Layout.block ⟨3, ![2, 128, 256]⟩ ⟨3, ![16, 128, 256]⟩ 0 8 c w)
    (c : Dev nD) : outAt m ρ c = Layout.block ⟨2, ![256, 256]⟩ ⟨2, ![2048, 256]⟩ 0 8 c (Cert.RefValue.refOut x r w) := by
  funext y
  obtain ⟨i, h, rfl⟩ : ∃ i h : Fin 256, y = ix2 i h := ⟨y 0, y 1, eq_ix2 y⟩
  rw [outAt_parts]
  refine Eq.trans ?_ ((Cert.RefValue.refOut_at x r w (tok c i) h).symm.trans (congrArg (Cert.RefValue.refOut x r w) ?_))
  · refine Finset.sum_congr rfl fun e _ => part_at m ρ x r w (fun j k d => ?_) (fun j k => ?_) (fun j s d h' => ?_) c i h e
    · unfold xAt; rw [x_staged, hx]
      exact congrArg x (eq_ix2 _)
    · rw [r_staged, hr]
      exact congrArg r (eq_ix2 _)
    · rw [w_staged, hw]
      exact congrArg w (eq_ix3 _)
  · have ht : Layout.Tiles ⟨2, ![256, 256]⟩ ⟨2, ![2048, 256]⟩ 0 8 := by decide
    exact ((eq_ix2 (ht.idx c (ix2 i h))).trans rfl).symm

end Cert.Value

end
-- ==== Proof.lean ====
/-
# The claims

The run of the eight devices gives the frames of the kernel and of its idealization, the printed run of the reference its
own. The two runs' results are one array (`Cert.Value.outAt_ref`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_p : Cert.quiescent_Kernel := fun m ρ _ =>
  (θ_run Cert.Kernel.defs _ _).mono (fun _ h => ⟨fun c => (h.1 c).2, h.2⟩) (Cert.KernelRun.run_named (F := Bits) m ρ)

theorem frame_pi : Cert.quiescent_KernelIdeal := fun m ρ _ =>
  (θ_run Cert.KernelIdeal.defs _ _).mono (fun _ h => ⟨fun c => (h.1 c).2, h.2⟩) (Cert.KernelIdealRun.run_named (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hag =>
  ⟨Cert.RefValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).1.trans
        (Cert.Value.outAt_ref m g _ _ _ (fun c => (hag c).1) (fun c => (hag c).2.2.1) (fun c => (hag c).2.2.2) c), (h.1 c).2⟩)
      (Cert.KernelIdealRun.run_named (F := Ideal) m g),
    Cert.RefValue.run_zero m' g'⟩

theorem claim : Cert.Claim := ⟨Cert.Kernel.Gen.facts, Cert.KernelIdeal.Gen.facts, Cert.ReferenceIdeal.Gen.facts,
  frame_p, frame_pi, frame_ri, trivial, algebraic⟩

end Cert.Proof

end
